-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S8x2048 : Shape := ⟨2, ![8, 2048]⟩
abbrev S8 : Shape := ⟨1, ![8]⟩
abbrev S8x1408x2048 : Shape := ⟨3, ![8, 1408, 2048]⟩
abbrev S8x2048x1408 : Shape := ⟨3, ![8, 2048, 1408]⟩
abbrev S1408x2048 : Shape := ⟨2, ![1408, 2048]⟩
abbrev S2048x1408 : Shape := ⟨2, ![2048, 1408]⟩
abbrev S2048x2048 : Shape := ⟨2, ![2048, 2048]⟩
abbrev S2048x8 : Shape := ⟨2, ![2048, 8]⟩
abbrev S_ : Shape := ⟨0, ![]⟩
abbrev S1x8 : Shape := ⟨2, ![1, 8]⟩
abbrev S2048x2 : Shape := ⟨2, ![2048, 2]⟩
abbrev S2048x2x1 : Shape := ⟨3, ![2048, 2, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S4096 : Shape := ⟨1, ![4096]⟩
abbrev S4096x1 : Shape := ⟨2, ![4096, 1]⟩
abbrev S4096x8 : Shape := ⟨2, ![4096, 8]⟩
abbrev S4096x1x1 : Shape := ⟨3, ![4096, 1, 1]⟩
abbrev S8192 : Shape := ⟨1, ![8192]⟩
abbrev S8192x1 : Shape := ⟨2, ![8192, 1]⟩
abbrev S4096x2 : Shape := ⟨2, ![4096, 2]⟩
abbrev S16 : Shape := ⟨1, ![16]⟩
abbrev S16x1 : Shape := ⟨2, ![16, 1]⟩
abbrev S16x8 : Shape := ⟨2, ![16, 8]⟩
abbrev S1x1 : Shape := ⟨2, ![1, 1]⟩
abbrev S8192x2048 : Shape := ⟨2, ![8192, 2048]⟩
abbrev S512x2048 : Shape := ⟨2, ![512, 2048]⟩
abbrev S512x1 : Shape := ⟨2, ![512, 1]⟩
abbrev S1x1408x2048 : Shape := ⟨3, ![1, 1408, 2048]⟩
abbrev S1x2048x1408 : Shape := ⟨3, ![1, 2048, 1408]⟩
abbrev S512x1408 : Shape := ⟨2, ![512, 1408]⟩

abbrev nBuf : Space → Nat
  | .hbm => 259
  | .vmem => 23
  | .smem => 1
  | _ => 0

abbrev hbmTy0_0 (i : Nat) : BufTy := match i % 128 with
  | 0 => ⟨S1x2048x2048, .f32⟩
  | 1 => ⟨S8x2048, .f32⟩
  | 2 => ⟨S8, .f32⟩
  | 3 => ⟨S8x1408x2048, .f32⟩
  | 4 => ⟨S8x1408x2048, .f32⟩
  | 5 => ⟨S8x2048x1408, .f32⟩
  | 6 => ⟨S1408x2048, .f32⟩
  | 7 => ⟨S1408x2048, .f32⟩
  | 8 => ⟨S2048x1408, .f32⟩
  | 9 => ⟨S2048x2048, .f32⟩
  | 10 => ⟨S2048x8, .f32⟩
  | 11 => ⟨S2048x8, .f32⟩
  | 12 => ⟨S2048x8, .f32⟩
  | 13 => ⟨S2048x8, .f32⟩
  | 14 => ⟨S_, .f32⟩
  | 15 => ⟨S2048x8, .f32⟩
  | 16 => ⟨S2048x8, .f32⟩
  | 17 => ⟨S_, .f32⟩
  | 18 => ⟨S2048x8, .f32⟩
  | 19 => ⟨S2048x8, .f32⟩
  | 20 => ⟨S1x8, .f32⟩
  | 21 => ⟨S2048x8, .f32⟩
  | 22 => ⟨S2048x8, .f32⟩
  | 23 => ⟨S2048x2, .f32⟩
  | 24 => ⟨S2048x2, .i32⟩
  | 25 => ⟨S_, .i32⟩
  | 26 => ⟨S2048x2, .i32⟩
  | 27 => ⟨S2048x2, .i1⟩
  | 28 => ⟨S_, .i32⟩
  | 29 => ⟨S2048x2, .i32⟩
  | 30 => ⟨S2048x2, .i32⟩
  | 31 => ⟨S2048x2, .i32⟩
  | 32 => ⟨S2048x2x1, .i32⟩
  | 33 => ⟨S1, .i32⟩
  | 34 => ⟨S_, .i32⟩
  | 35 => ⟨S2048x2x1, .i32⟩
  | 36 => ⟨S2048x2x1, .i1⟩
  | 37 => ⟨S1x1x1, .i32⟩
  | 38 => ⟨S2048x2x1, .i32⟩
  | 39 => ⟨S2048x2x1, .i1⟩
  | 40 => ⟨S2048x2x1, .i1⟩
  | 41 => ⟨S_, .i1⟩
  | 42 => ⟨S2048x2, .i1⟩
  | 43 => ⟨S2048x2, .f32⟩
  | 44 => ⟨S_, .f32⟩
  | 45 => ⟨S2048x2, .f32⟩
  | 46 => ⟨S2048x2, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S2048x2, .f32⟩
  | 54 => ⟨S2048x2, .f32⟩
  | 55 => ⟨S_, .f32⟩
  | 56 => ⟨S2048x2, .f32⟩
  | 57 => ⟨S2048x2, .f32⟩
  | 58 => ⟨S4096, .i32⟩
  | 59 => ⟨S4096, .f32⟩
  | 60 => ⟨S2048, .i32⟩
  | 61 => ⟨S2048x2, .i32⟩
  | 62 => ⟨S4096, .i32⟩
  | 63 => ⟨S4096x1, .i32⟩
  | 64 => ⟨S1x8, .i32⟩
  | 65 => ⟨S4096x8, .i32⟩
  | 66 => ⟨S4096x8, .i32⟩
  | 67 => ⟨S4096x8, .i1⟩
  | 68 => ⟨S4096x8, .i32⟩
  | 69 => ⟨S_, .i32⟩
  | 70 => ⟨S8, .i32⟩
  | 71 => ⟨S_, .i32⟩
  | 72 => ⟨S_, .i32⟩
  | 73 => ⟨S4096x8, .i32⟩
  | 74 => ⟨S4096x8, .i32⟩
  | 75 => ⟨S4096x1, .i32⟩
  | 76 => ⟨S_, .i32⟩
  | 77 => ⟨S4096x1, .i32⟩
  | 78 => ⟨S4096x1, .i1⟩
  | 79 => ⟨S_, .i32⟩
  | 80 => ⟨S4096x1, .i32⟩
  | 81 => ⟨S4096x1, .i32⟩
  | 82 => ⟨S4096x1, .i32⟩
  | 83 => ⟨S4096x1x1, .i32⟩
  | 84 => ⟨S1, .i32⟩
  | 85 => ⟨S_, .i32⟩
  | 86 => ⟨S4096x1x1, .i32⟩
  | 87 => ⟨S4096x1x1, .i1⟩
  | 88 => ⟨S1x1x1, .i32⟩
  | 89 => ⟨S4096x1x1, .i32⟩
  | 90 => ⟨S4096x1x1, .i1⟩
  | 91 => ⟨S4096x1x1, .i1⟩
  | 92 => ⟨S_, .i1⟩
  | 93 => ⟨S4096x1, .i1⟩
  | 94 => ⟨S4096x1, .i32⟩
  | 95 => ⟨S_, .i32⟩
  | 96 => ⟨S4096x1, .i32⟩
  | 97 => ⟨S4096x1, .i32⟩
  | 98 => ⟨S4096, .i32⟩
  | 99 => ⟨S_, .i32⟩
  | 100 => ⟨S8, .i32⟩
  | 101 => ⟨S8, .i32⟩
  | 102 => ⟨S_, .i32⟩
  | 103 => ⟨S8, .i32⟩
  | 104 => ⟨S8, .i32⟩
  | 105 => ⟨S_, .i32⟩
  | 106 => ⟨S_, .i32⟩
  | 107 => ⟨S8, .i32⟩
  | 108 => ⟨S8, .i32⟩
  | 109 => ⟨S8, .i32⟩
  | 110 => ⟨S_, .i32⟩
  | 111 => ⟨S8, .i32⟩
  | 112 => ⟨S8, .i1⟩
  | 113 => ⟨S8, .i32⟩
  | 114 => ⟨S8, .i32⟩
  | 115 => ⟨S_, .i32⟩
  | 116 => ⟨S8, .i32⟩
  | 117 => ⟨S8, .i1⟩
  | 118 => ⟨S8, .i1⟩
  | 119 => ⟨S_, .i32⟩
  | 120 => ⟨S8, .i32⟩
  | 121 => ⟨S8, .i32⟩
  | 122 => ⟨S8, .i32⟩
  | 123 => ⟨S_, .i32⟩
  | 124 => ⟨S_, .i32⟩
  | 125 => ⟨S8, .i32⟩
  | 126 => ⟨S8, .i32⟩
  | 127 => ⟨S_, .i32⟩
  | _ => ⟨S1x2048x2048, .f32⟩

abbrev hbmTy0_1 (i : Nat) : BufTy := match i % 128 with
  | 0 => ⟨S8, .i32⟩
  | 1 => ⟨S8, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S4096, .i32⟩
  | 11 => ⟨S4096, .i32⟩
  | 12 => ⟨S_, .i32⟩
  | 13 => ⟨S8192, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S8192, .i32⟩
  | 23 => ⟨S_, .f32⟩
  | 24 => ⟨S8192x1, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S_, .i32⟩
  | 33 => ⟨S4096, .i32⟩
  | 34 => ⟨S4096, .i32⟩
  | 35 => ⟨S4096x1, .i32⟩
  | 36 => ⟨S4096x1, .i32⟩
  | 37 => ⟨S4096x2, .i32⟩
  | 38 => ⟨S8192x1, .f32⟩
  | 39 => ⟨S1x8, .i32⟩
  | 40 => ⟨S16, .i32⟩
  | 41 => ⟨S16x1, .i32⟩
  | 42 => ⟨S16x8, .i32⟩
  | 43 => ⟨S16x8, .i32⟩
  | 44 => ⟨S16x8, .i1⟩
  | 45 => ⟨S16x8, .i32⟩
  | 46 => ⟨S_, .i32⟩
  | 47 => ⟨S16, .i32⟩
  | 48 => ⟨S_, .i32⟩
  | 49 => ⟨S16, .i32⟩
  | 50 => ⟨S2048x2048, .bf16⟩
  | 51 => ⟨S8x1408x2048, .bf16⟩
  | 52 => ⟨S8x1408x2048, .bf16⟩
  | 53 => ⟨S8x2048x1408, .bf16⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S1, .i32⟩
  | 63 => ⟨S_, .i32⟩
  | 64 => ⟨S8192x1, .i32⟩
  | 65 => ⟨S8192x1, .i1⟩
  | 66 => ⟨S1x1, .i32⟩
  | 67 => ⟨S8192x1, .i32⟩
  | 68 => ⟨S8192x1, .i1⟩
  | 69 => ⟨S8192x1, .i1⟩
  | 70 => ⟨S_, .i1⟩
  | 71 => ⟨S8192, .i1⟩
  | 72 => ⟨S8192x2048, .bf16⟩
  | 73 => ⟨S8192x2048, .i1⟩
  | 74 => ⟨S_, .bf16⟩
  | 75 => ⟨S8192x2048, .bf16⟩
  | 76 => ⟨S8192x2048, .bf16⟩
  | 77 => ⟨S8192x2048, .bf16⟩
  | 78 => ⟨S2048, .i32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S2048x1, .i32⟩
  | 87 => ⟨S1, .i32⟩
  | 88 => ⟨S_, .i32⟩
  | 89 => ⟨S2048x1, .i32⟩
  | 90 => ⟨S2048x1, .i1⟩
  | 91 => ⟨S1x1, .i32⟩
  | 92 => ⟨S2048x1, .i32⟩
  | 93 => ⟨S2048x1, .i1⟩
  | 94 => ⟨S2048x1, .i1⟩
  | 95 => ⟨S_, .i1⟩
  | 96 => ⟨S2048, .i1⟩
  | 97 => ⟨S2048x2048, .bf16⟩
  | 98 => ⟨S2048x2048, .i1⟩
  | 99 => ⟨S_, .bf16⟩
  | 100 => ⟨S2048x2048, .bf16⟩
  | 101 => ⟨S2048x2048, .bf16⟩
  | 102 => ⟨S2048, .i32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S2048x1, .i32⟩
  | 111 => ⟨S1, .i32⟩
  | 112 => ⟨S_, .i32⟩
  | 113 => ⟨S2048x1, .i32⟩
  | 114 => ⟨S2048x1, .i1⟩
  | 115 => ⟨S1x1, .i32⟩
  | 116 => ⟨S2048x1, .i32⟩
  | 117 => ⟨S2048x1, .i1⟩
  | 118 => ⟨S2048x1, .i1⟩
  | 119 => ⟨S_, .i1⟩
  | 120 => ⟨S2048, .i1⟩
  | 121 => ⟨S2048x2048, .bf16⟩
  | 122 => ⟨S2048x2048, .i1⟩
  | 123 => ⟨S_, .bf16⟩
  | 124 => ⟨S2048x2048, .bf16⟩
  | 125 => ⟨S2048x2048, .bf16⟩
  | 126 => ⟨S1408x2048, .bf16⟩
  | 127 => ⟨S1408x2048, .bf16⟩
  | _ => ⟨S1x2048x2048, .f32⟩

abbrev hbmTy0_2 (i : Nat) : BufTy := match i % 128 with
  | 0 => ⟨S2048x1408, .bf16⟩
  | 1 => ⟨S2048x2048, .f32⟩
  | 2 => ⟨S1x2048x2048, .f32⟩
  | _ => ⟨S1x2048x2048, .f32⟩

abbrev hbmTy (i : Nat) : BufTy := match i / 128 with
  | 0 => hbmTy0_0 i
  | 1 => hbmTy0_1 i
  | 2 => hbmTy0_2 i
  | _ => ⟨S1x2048x2048, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S512x1, .f32⟩
  | .local _ .vmem, ⟨3, _⟩ => ⟨S512x1, .f32⟩
  | .local _ .vmem, ⟨4, _⟩ => ⟨S1x1408x2048, .bf16⟩
  | .local _ .vmem, ⟨5, _⟩ => ⟨S1x1408x2048, .bf16⟩
  | .local _ .vmem, ⟨6, _⟩ => ⟨S1x1408x2048, .bf16⟩
  | .local _ .vmem, ⟨7, _⟩ => ⟨S1x1408x2048, .bf16⟩
  | .local _ .vmem, ⟨8, _⟩ => ⟨S1x2048x1408, .bf16⟩
  | .local _ .vmem, ⟨9, _⟩ => ⟨S1x2048x1408, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S1408x2048, .bf16⟩
  | .local _ .vmem, ⟨19, _⟩ => ⟨S1408x2048, .bf16⟩
  | .local _ .vmem, ⟨20, _⟩ => ⟨S2048x1408, .bf16⟩
  | .local _ .vmem, ⟨21, _⟩ => ⟨S512x2048, .f32⟩
  | .local _ .vmem, ⟨22, _⟩ => ⟨S512x2048, .f32⟩
  | .local _ .smem, ⟨0, _⟩ => ⟨S16, .i32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_values : Ref sig .tc := ⟨.hbm, 23, rfl⟩
abbrev main_indices : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v12 : Ref sig .tc := ⟨.hbm, 46, rfl⟩
abbrev main_cst_1 : Ref sig .tc := ⟨.hbm, 47, rfl⟩
abbrev main_v13 : Ref sig .tc := ⟨.hbm, 48, rfl⟩
abbrev main_v14 : Ref sig .tc := ⟨.hbm, 49, rfl⟩
abbrev main_cst_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v26 : Ref sig .tc := ⟨.hbm, 68, rfl⟩
abbrev main_c : Ref sig .tc := ⟨.hbm, 69, rfl⟩
abbrev main_v27 : Ref sig .tc := ⟨.hbm, 70, rfl⟩
abbrev main_call2_call0_c : Ref sig .tc := ⟨.hbm, 71, rfl⟩
abbrev main_call2_call0_v0 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_c_4 : Ref sig .tc := ⟨.hbm, 95, rfl⟩
abbrev main_call3_v14 : Ref sig .tc := ⟨.hbm, 96, rfl⟩
abbrev main_v31 : Ref sig .tc := ⟨.hbm, 97, rfl⟩
abbrev main_v32 : Ref sig .tc := ⟨.hbm, 98, rfl⟩
abbrev main_c_4 : Ref sig .tc := ⟨.hbm, 99, rfl⟩
abbrev main_v33 : Ref sig .tc := ⟨.hbm, 100, rfl⟩
abbrev main_v34 : Ref sig .tc := ⟨.hbm, 101, rfl⟩
abbrev main_c_5 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_c : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_0 : Ref sig .tc := ⟨.hbm, 119, rfl⟩
abbrev main_call4_v12 : Ref sig .tc := ⟨.hbm, 120, rfl⟩
abbrev main_call4_v13 : Ref sig .tc := ⟨.hbm, 121, rfl⟩
abbrev main_v37 : Ref sig .tc := ⟨.hbm, 122, rfl⟩
abbrev main_call5_call0_c : Ref sig .tc := ⟨.hbm, 123, rfl⟩
abbrev main_call5_call0_v0 : Ref sig .tc := ⟨.hbm, 124, rfl⟩
abbrev main_v38 : Ref sig .tc := ⟨.hbm, 125, rfl⟩
abbrev main_v39 : Ref sig .tc := ⟨.hbm, 126, rfl⟩
abbrev main_c_7 : Ref sig .tc := ⟨.hbm, 127, rfl⟩
abbrev main_v40 : Ref sig .tc := ⟨.hbm, 128, rfl⟩
abbrev main_v41 : Ref sig .tc := ⟨.hbm, 129, rfl⟩
abbrev main_c_8 : Ref sig .tc := ⟨.hbm, 130, rfl⟩
abbrev main_v42 : Ref sig .tc := ⟨.hbm, 131, rfl⟩
abbrev main_v43 : Ref sig .tc := ⟨.hbm, 132, rfl⟩
abbrev main_c_9 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_c_10 : Ref sig .tc := ⟨.hbm, 140, rfl⟩
abbrev main_v50 : Ref sig .tc := ⟨.hbm, 141, rfl⟩
abbrev main_c_11 : Ref sig .tc := ⟨.hbm, 142, rfl⟩
abbrev main_v51 : Ref sig .tc := ⟨.hbm, 143, rfl⟩
abbrev main_v52 : Ref sig .tc := ⟨.hbm, 144, rfl⟩
abbrev main_c_12 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_cst_13 : Ref sig .tc := ⟨.hbm, 151, rfl⟩
abbrev main_v58 : Ref sig .tc := ⟨.hbm, 152, rfl⟩
abbrev main_c_14 : Ref sig .tc := ⟨.hbm, 153, rfl⟩
abbrev main_v59 : Ref sig .tc := ⟨.hbm, 154, rfl⟩
abbrev main_v60 : Ref sig .tc := ⟨.hbm, 155, rfl⟩
abbrev main_c_15 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_c_16 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_c_17 : Ref sig .tc := ⟨.hbm, 174, rfl⟩
abbrev main_v77 : Ref sig .tc := ⟨.hbm, 175, rfl⟩
abbrev main_c_18 : Ref sig .tc := ⟨.hbm, 176, rfl⟩
abbrev main_v78 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_call6_c : Ref sig .tc := ⟨.hbm, 182, rfl⟩
abbrev main_call6_v0 : Ref sig .tc := ⟨.hbm, 183, rfl⟩
abbrev main_call6_v1 : Ref sig .tc := ⟨.hbm, 184, rfl⟩
abbrev main_call6_c_0 : Ref sig .tc := ⟨.hbm, 185, rfl⟩
abbrev main_call6_v2 : Ref sig .tc := ⟨.hbm, 186, rfl⟩
abbrev main_call6_v3 : Ref sig .tc := ⟨.hbm, 187, rfl⟩
abbrev main_call6_v4 : Ref sig .tc := ⟨.hbm, 188, rfl⟩
abbrev main_call6_v5 : Ref sig .tc := ⟨.hbm, 189, rfl⟩
abbrev main_call6_c_1 : Ref sig .tc := ⟨.hbm, 190, rfl⟩
abbrev main_call6_c_2 : Ref sig .tc := ⟨.hbm, 191, rfl⟩
abbrev main_call6_v6 : Ref sig .tc := ⟨.hbm, 192, rfl⟩
abbrev main_call6_v7 : Ref sig .tc := ⟨.hbm, 193, rfl⟩
abbrev main_call6_v8 : Ref sig .tc := ⟨.hbm, 194, rfl⟩
abbrev main_call6_v9 : Ref sig .tc := ⟨.hbm, 195, rfl⟩
abbrev main_call6_v10 : Ref sig .tc := ⟨.hbm, 196, rfl⟩
abbrev main_call6_v11 : Ref sig .tc := ⟨.hbm, 197, rfl⟩
abbrev main_call6_c_3 : Ref sig .tc := ⟨.hbm, 198, rfl⟩
abbrev main_call6_v12 : Ref sig .tc := ⟨.hbm, 199, rfl⟩
abbrev main_call6_v13 : Ref sig .tc := ⟨.hbm, 200, rfl⟩
abbrev main_call6_v14 : Ref sig .tc := ⟨.hbm, 201, rfl⟩
abbrev main_call6_cst : Ref sig .tc := ⟨.hbm, 202, rfl⟩
abbrev main_call6_v15 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_call7_c : Ref sig .tc := ⟨.hbm, 207, rfl⟩
abbrev main_call7_v0 : Ref sig .tc := ⟨.hbm, 208, rfl⟩
abbrev main_call7_v1 : Ref sig .tc := ⟨.hbm, 209, rfl⟩
abbrev main_call7_c_0 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_call7_v5 : Ref sig .tc := ⟨.hbm, 214, rfl⟩
abbrev main_call7_c_1 : Ref sig .tc := ⟨.hbm, 215, rfl⟩
abbrev main_call7_c_2 : Ref sig .tc := ⟨.hbm, 216, rfl⟩
abbrev main_call7_v6 : Ref sig .tc := ⟨.hbm, 217, rfl⟩
abbrev main_call7_v7 : Ref sig .tc := ⟨.hbm, 218, rfl⟩
abbrev main_call7_v8 : Ref sig .tc := ⟨.hbm, 219, rfl⟩
abbrev main_call7_v9 : Ref sig .tc := ⟨.hbm, 220, rfl⟩
abbrev main_call7_v10 : Ref sig .tc := ⟨.hbm, 221, rfl⟩
abbrev main_call7_v11 : Ref sig .tc := ⟨.hbm, 222, rfl⟩
abbrev main_call7_c_3 : Ref sig .tc := ⟨.hbm, 223, rfl⟩
abbrev main_call7_v12 : Ref sig .tc := ⟨.hbm, 224, rfl⟩
abbrev main_call7_v13 : Ref sig .tc := ⟨.hbm, 225, rfl⟩
abbrev main_call7_v14 : Ref sig .tc := ⟨.hbm, 226, rfl⟩
abbrev main_call7_cst : Ref sig .tc := ⟨.hbm, 227, rfl⟩
abbrev main_call7_v15 : Ref sig .tc := ⟨.hbm, 228, rfl⟩
abbrev main_v87 : Ref sig .tc := ⟨.hbm, 229, rfl⟩
abbrev main_v88 : Ref sig .tc := ⟨.hbm, 230, rfl⟩
abbrev main_call8_c : Ref sig .tc := ⟨.hbm, 231, rfl⟩
abbrev main_call8_v0 : Ref sig .tc := ⟨.hbm, 232, rfl⟩
abbrev main_call8_v1 : Ref sig .tc := ⟨.hbm, 233, rfl⟩
abbrev main_call8_c_0 : Ref sig .tc := ⟨.hbm, 234, rfl⟩
abbrev main_call8_v2 : Ref sig .tc := ⟨.hbm, 235, rfl⟩
abbrev main_call8_v3 : Ref sig .tc := ⟨.hbm, 236, rfl⟩
abbrev main_call8_v4 : Ref sig .tc := ⟨.hbm, 237, rfl⟩
abbrev main_call8_v5 : Ref sig .tc := ⟨.hbm, 238, rfl⟩
abbrev main_call8_c_1 : Ref sig .tc := ⟨.hbm, 239, rfl⟩
abbrev main_call8_c_2 : Ref sig .tc := ⟨.hbm, 240, rfl⟩
abbrev main_call8_v6 : Ref sig .tc := ⟨.hbm, 241, rfl⟩
abbrev main_call8_v7 : Ref sig .tc := ⟨.hbm, 242, rfl⟩
abbrev main_call8_v8 : Ref sig .tc := ⟨.hbm, 243, rfl⟩
abbrev main_call8_v9 : Ref sig .tc := ⟨.hbm, 244, rfl⟩
abbrev main_call8_v10 : Ref sig .tc := ⟨.hbm, 245, rfl⟩
abbrev main_call8_v11 : Ref sig .tc := ⟨.hbm, 246, rfl⟩
abbrev main_call8_c_3 : Ref sig .tc := ⟨.hbm, 247, rfl⟩
abbrev main_call8_v12 : Ref sig .tc := ⟨.hbm, 248, rfl⟩
abbrev main_call8_v13 : Ref sig .tc := ⟨.hbm, 249, rfl⟩
abbrev main_call8_v14 : Ref sig .tc := ⟨.hbm, 250, rfl⟩
abbrev main_call8_cst : Ref sig .tc := ⟨.hbm, 251, rfl⟩
abbrev main_call8_v15 : Ref sig .tc := ⟨.hbm, 252, rfl⟩
abbrev main_v89 : Ref sig .tc := ⟨.hbm, 253, rfl⟩
abbrev main_v90 : Ref sig .tc := ⟨.hbm, 254, rfl⟩
abbrev main_v91 : Ref sig .tc := ⟨.hbm, 255, rfl⟩
abbrev main_v92 : Ref sig .tc := ⟨.hbm, 256, rfl⟩
abbrev main_v93 : Ref sig .tc := ⟨.hbm, 257, rfl⟩
abbrev main_v94 : Ref sig .tc := ⟨.hbm, 258, rfl⟩
abbrev main_v79 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v79.idx], fun | 0 => main_v79.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1408x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1408x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x1408 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S1x2048x2048 : Shape := ⟨3, ![1, 2048, 2048]⟩
abbrev S8x2048 : Shape := ⟨2, ![8, 2048]⟩
abbrev S8 : Shape := ⟨1, ![8]⟩
abbrev S8x1408x2048 : Shape := ⟨3, ![8, 1408, 2048]⟩
abbrev S8x2048x1408 : Shape := ⟨3, ![8, 2048, 1408]⟩
abbrev S1408x2048 : Shape := ⟨2, ![1408, 2048]⟩
abbrev S2048x1408 : Shape := ⟨2, ![2048, 1408]⟩
abbrev S2048x2048 : Shape := ⟨2, ![2048, 2048]⟩
abbrev S2048x8 : Shape := ⟨2, ![2048, 8]⟩
abbrev S_ : Shape := ⟨0, ![]⟩
abbrev S1x8 : Shape := ⟨2, ![1, 8]⟩
abbrev S2048x2 : Shape := ⟨2, ![2048, 2]⟩
abbrev S2048x2x1 : Shape := ⟨3, ![2048, 2, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S2048x2x2 : Shape := ⟨3, ![2048, 2, 2]⟩
abbrev S2048x8x1408 : Shape := ⟨3, ![2048, 8, 1408]⟩
abbrev S8x2048x2048 : Shape := ⟨3, ![8, 2048, 2048]⟩

abbrev nBuf : Space → Nat
  | .hbm => 116
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S8x2048, .f32⟩
  | .hbm, ⟨2, _⟩ => ⟨S8, .f32⟩
  | .hbm, ⟨3, _⟩ => ⟨S8x1408x2048, .f32⟩
  | .hbm, ⟨4, _⟩ => ⟨S8x1408x2048, .f32⟩
  | .hbm, ⟨5, _⟩ => ⟨S8x2048x1408, .f32⟩
  | .hbm, ⟨6, _⟩ => ⟨S1408x2048, .f32⟩
  | .hbm, ⟨7, _⟩ => ⟨S1408x2048, .f32⟩
  | .hbm, ⟨8, _⟩ => ⟨S2048x1408, .f32⟩
  | .hbm, ⟨9, _⟩ => ⟨S2048x2048, .f32⟩
  | .hbm, ⟨10, _⟩ => ⟨S2048x8, .f32⟩
  | .hbm, ⟨11, _⟩ => ⟨S2048x8, .f32⟩
  | .hbm, ⟨12, _⟩ => ⟨S2048x8, .f32⟩
  | .hbm, ⟨13, _⟩ => ⟨S2048x8, .f32⟩
  | .hbm, ⟨14, _⟩ => ⟨S_, .f32⟩
  | .hbm, ⟨15, _⟩ => ⟨S2048x8, .f32⟩
  | .hbm, ⟨16, _⟩ => ⟨S2048x8, .f32⟩
  | .hbm, ⟨17, _⟩ => ⟨S_, .f32⟩
  | .hbm, ⟨18, _⟩ => ⟨S2048x8, .f32⟩
  | .hbm, ⟨19, _⟩ => ⟨S2048x8, .f32⟩
  | .hbm, ⟨20, _⟩ => ⟨S1x8, .f32⟩
  | .hbm, ⟨21, _⟩ => ⟨S2048x8, .f32⟩
  | .hbm, ⟨22, _⟩ => ⟨S2048x8, .f32⟩
  | .hbm, ⟨23, _⟩ => ⟨S2048x2, .f32⟩
  | .hbm, ⟨24, _⟩ => ⟨S2048x2, .i32⟩
  | .hbm, ⟨25, _⟩ => ⟨S_, .i32⟩
  | .hbm, ⟨26, _⟩ => ⟨S2048x2, .i32⟩
  | .hbm, ⟨27, _⟩ => ⟨S2048x2, .i1⟩
  | .hbm, ⟨28, _⟩ => ⟨S_, .i32⟩
  | .hbm, ⟨29, _⟩ => ⟨S2048x2, .i32⟩
  | .hbm, ⟨30, _⟩ => ⟨S2048x2, .i32⟩
  | .hbm, ⟨31, _⟩ => ⟨S2048x2, .i32⟩
  | .hbm, ⟨32, _⟩ => ⟨S2048x2x1, .i32⟩
  | .hbm, ⟨33, _⟩ => ⟨S1, .i32⟩
  | .hbm, ⟨34, _⟩ => ⟨S_, .i32⟩
  | .hbm, ⟨35, _⟩ => ⟨S2048x2x1, .i32⟩
  | .hbm, ⟨36, _⟩ => ⟨S2048x2x1, .i1⟩
  | .hbm, ⟨37, _⟩ => ⟨S1x1x1, .i32⟩
  | .hbm, ⟨38, _⟩ => ⟨S2048x2x1, .i32⟩
  | .hbm, ⟨39, _⟩ => ⟨S2048x2x1, .i1⟩
  | .hbm, ⟨40, _⟩ => ⟨S2048x2x1, .i1⟩
  | .hbm, ⟨41, _⟩ => ⟨S_, .i1⟩
  | .hbm, ⟨42, _⟩ => ⟨S2048x2, .i1⟩
  | .hbm, ⟨43, _⟩ => ⟨S2048x2, .f32⟩
  | .hbm, ⟨44, _⟩ => ⟨S_, .f32⟩
  | .hbm, ⟨45, _⟩ => ⟨S2048x2, .f32⟩
  | .hbm, ⟨46, _⟩ => ⟨S2048x2, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S2048x2, .f32⟩
  | .hbm, ⟨54, _⟩ => ⟨S2048x2, .f32⟩
  | .hbm, ⟨55, _⟩ => ⟨S_, .f32⟩
  | .hbm, ⟨56, _⟩ => ⟨S2048x2, .f32⟩
  | .hbm, ⟨57, _⟩ => ⟨S2048x2, .f32⟩
  | .hbm, ⟨58, _⟩ => ⟨S_, .f32⟩
  | .hbm, ⟨59, _⟩ => ⟨S2048x8, .f32⟩
  | .hbm, ⟨60, _⟩ => ⟨S2048, .i32⟩
  | .hbm, ⟨61, _⟩ => ⟨S2048x1, .i32⟩
  | .hbm, ⟨62, _⟩ => ⟨S_, .i32⟩
  | .hbm, ⟨63, _⟩ => ⟨S2048x1, .i32⟩
  | .hbm, ⟨64, _⟩ => ⟨S2048x1, .i1⟩
  | .hbm, ⟨65, _⟩ => ⟨S_, .i32⟩
  | .hbm, ⟨66, _⟩ => ⟨S2048x1, .i32⟩
  | .hbm, ⟨67, _⟩ => ⟨S2048x1, .i32⟩
  | .hbm, ⟨68, _⟩ => ⟨S2048x1, .i32⟩
  | .hbm, ⟨69, _⟩ => ⟨S_, .i32⟩
  | .hbm, ⟨70, _⟩ => ⟨S2048x2, .i32⟩
  | .hbm, ⟨71, _⟩ => ⟨S2048x2, .i1⟩
  | .hbm, ⟨72, _⟩ => ⟨S_, .i32⟩
  | .hbm, ⟨73, _⟩ => ⟨S2048x2, .i32⟩
  | .hbm, ⟨74, _⟩ => ⟨S2048x2, .i32⟩
  | .hbm, ⟨75, _⟩ => ⟨S2048x2, .i32⟩
  | .hbm, ⟨76, _⟩ => ⟨S2048x2, .i32⟩
  | .hbm, ⟨77, _⟩ => ⟨S2048x2x1, .i32⟩
  | .hbm, ⟨78, _⟩ => ⟨S2048x2x1, .i32⟩
  | .hbm, ⟨79, _⟩ => ⟨S2048x2x2, .i32⟩
  | .hbm, ⟨80, _⟩ => ⟨S2048x8, .f32⟩
  | .hbm, ⟨81, _⟩ => ⟨S8x2048x1408, .f32⟩
  | .hbm, ⟨82, _⟩ => ⟨S2048x8x1408, .f32⟩
  | .hbm, ⟨83, _⟩ => ⟨S2048x8x1408, .f32⟩
  | .hbm, ⟨84, _⟩ => ⟨S2048x8x1408, .f32⟩
  | .hbm, ⟨85, _⟩ => ⟨S_, .f32⟩
  | .hbm, ⟨86, _⟩ => ⟨S2048x8x1408, .f32⟩
  | .hbm, ⟨87, _⟩ => ⟨S2048x8x1408, .f32⟩
  | .hbm, ⟨88, _⟩ => ⟨S_, .f32⟩
  | .hbm, ⟨89, _⟩ => ⟨S2048x8x1408, .f32⟩
  | .hbm, ⟨90, _⟩ => ⟨S2048x8x1408, .f32⟩
  | .hbm, ⟨91, _⟩ => ⟨S2048x8x1408, .f32⟩
  | .hbm, ⟨92, _⟩ => ⟨S8x2048x1408, .f32⟩
  | .hbm, ⟨93, _⟩ => ⟨S2048x8x1408, .f32⟩
  | .hbm, ⟨94, _⟩ => ⟨S2048x8x1408, .f32⟩
  | .hbm, ⟨95, _⟩ => ⟨S8x1408x2048, .f32⟩
  | .hbm, ⟨96, _⟩ => ⟨S8x2048x2048, .f32⟩
  | .hbm, ⟨97, _⟩ => ⟨S2048x2048, .f32⟩
  | .hbm, ⟨98, _⟩ => ⟨S2048x1408, .f32⟩
  | .hbm, ⟨99, _⟩ => ⟨S2048x1408, .f32⟩
  | .hbm, ⟨100, _⟩ => ⟨S2048x1408, .f32⟩
  | .hbm, ⟨101, _⟩ => ⟨S2048x1408, .f32⟩
  | .hbm, ⟨102, _⟩ => ⟨S_, .f32⟩
  | .hbm, ⟨103, _⟩ => ⟨S2048x1408, .f32⟩
  | .hbm, ⟨104, _⟩ => ⟨S2048x1408, .f32⟩
  | .hbm, ⟨105, _⟩ => ⟨S_, .f32⟩
  | .hbm, ⟨106, _⟩ => ⟨S2048x1408, .f32⟩
  | .hbm, ⟨107, _⟩ => ⟨S2048x1408, .f32⟩
  | .hbm, ⟨108, _⟩ => ⟨S2048x1408, .f32⟩
  | .hbm, ⟨109, _⟩ => ⟨S2048x1408, .f32⟩
  | .hbm, ⟨110, _⟩ => ⟨S2048x1408, .f32⟩
  | .hbm, ⟨111, _⟩ => ⟨S2048x1408, .f32⟩
  | .hbm, ⟨112, _⟩ => ⟨S1408x2048, .f32⟩
  | .hbm, ⟨113, _⟩ => ⟨S2048x2048, .f32⟩
  | .hbm, ⟨114, _⟩ => ⟨S2048x2048, .f32⟩
  | .hbm, ⟨115, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_values : Ref sig .tc := ⟨.hbm, 23, rfl⟩
abbrev main_indices : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v12 : Ref sig .tc := ⟨.hbm, 46, rfl⟩
abbrev main_cst_1 : Ref sig .tc := ⟨.hbm, 47, rfl⟩
abbrev main_v13 : Ref sig .tc := ⟨.hbm, 48, rfl⟩
abbrev main_v14 : Ref sig .tc := ⟨.hbm, 49, rfl⟩
abbrev main_cst_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_v20 : Ref sig .tc := ⟨.hbm, 57, rfl⟩
abbrev main_cst_4 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c : Ref sig .tc := ⟨.hbm, 62, rfl⟩
abbrev main_v24 : Ref sig .tc := ⟨.hbm, 63, rfl⟩
abbrev main_v25 : Ref sig .tc := ⟨.hbm, 64, rfl⟩
abbrev main_c_5 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_c_6 : Ref sig .tc := ⟨.hbm, 69, rfl⟩
abbrev main_v29 : Ref sig .tc := ⟨.hbm, 70, rfl⟩
abbrev main_v30 : Ref sig .tc := ⟨.hbm, 71, rfl⟩
abbrev main_c_7 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩

abbrev nD : Nat := 1
abbrev τ : Topo := Topo.v7x

variable {F : FTy → Type} [FloatOps F]
-- ==== Proof.KernelIdeal.Body.lean ====
/-
  The two kernel bodies as triples: from whole staging buffers, the inputs' at given contents, each body runs to its
  return, leaves the inputs as they were and its output's buffer at the printed payload of the inputs.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.ValueKit
public import Idealize.ShloMosaic.Lib.Tactic

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside counters. -/
abbrev UU : Type := UR sig nD τ × Counters

local notation "𝕄" => MT nD τ sig Unit (Elt F) ℕ UU ℕ

/-- One store over the whole buffer covers it. -/
theorem whole_cover {S : Shape} {e : EltTy} {off : Fin S.rank → Nat} (inb : ∀ a, off a + S.size a ≤ S.size a) (h : ∀ a, off a = 0)
    (p : Vec F S e) (y : S.Idx) :
    ∃ pc ∈ ([⟨Rect.unit off S.size inb, p⟩] : List (View.Piece (Elt F) S e)), y ∈ pc.1.set := by
  refine ⟨_, List.mem_singleton.mpr rfl, ?_⟩
  rw [Rect.mem_set_unit]
  intro a
  rw [h a]
  exact ⟨Nat.zero_le _, by simpa using (y a).isLt⟩

set_option maxHeartbeats 1000000 in
/-- The routed expert's body on whole staging buffers. -/
theorem sound0 (c : Dev nD) (E : Set ℕ) (i : grid0.Coords) (arg1 : Memref sig .tc .smem S16 .i32) (harg1 : arg1.IsWhole) (arg2 : Memref sig .tc .vmem S512x2048 .bf16) (harg2 : arg2.IsWhole)
    (arg3 : Memref sig .tc .vmem S512x1 .f32) (harg3 : arg3.IsWhole) (arg4 : Memref sig .tc .vmem S1x1408x2048 .bf16) (harg4 : arg4.IsWhole)
    (arg5 : Memref sig .tc .vmem S1x1408x2048 .bf16) (harg5 : arg5.IsWhole) (arg6 : Memref sig .tc .vmem S1x2048x1408 .bf16) (harg6 : arg6.IsWhole)
    (arg7 : Memref sig .tc .vmem S512x2048 .bf16) (harg7 : arg7.IsWhole)
    (x0 : Vec F S512x2048 .bf16) (x1 : Vec F S512x1 .f32) (x2 x3 : Vec F S1x1408x2048 .bf16) (x4 : Vec F S1x2048x1408 .bf16) (K : PUnit → sProp 𝕄) :
    iprop(owns c arg2 fullShare x0 ∗ owns c arg3 fullShare x1 ∗ owns c arg4 fullShare x2 ∗ owns c arg5 fullShare x3 ∗ owns c arg6 fullShare x4
        ∗ (∃ d, owns c arg7 fullShare d)
        ∗ (iprop(owns c arg2 fullShare x0 ∗ owns c arg3 fullShare x1 ∗ owns c arg4 fullShare x2 ∗ owns c arg5 fullShare x3 ∗ owns c arg6 fullShare x4
            ∗ owns c arg7 fullShare (k0_pay1 x0 x2 x3 x1 x4)) -∗ K ⟨⟩))
      ⊢ wp frame (wpE (defs₀ (F := F)) Variants.none c none) E
          (cc0__routed_kernel i arg1 harg1 arg2 harg2 arg3 harg3 arg4 harg4 arg5 harg5 arg6 harg6 arg7 harg7) K := by
  simp only [cc0__routed_kernel_eq_skeleton]; unfold cc0__routed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (whole_cover _ (by decide) _)).trans ?_
  frame_out

set_option maxHeartbeats 1000000 in
/-- The shared expert's body on whole staging buffers. -/
theorem sound1 (c : Dev nD) (E : Set ℕ) (i : grid1.Coords) (arg1 : Memref sig .tc .vmem S512x2048 .bf16) (harg1 : arg1.IsWhole) (arg2 : Memref sig .tc .vmem S512x2048 .bf16) (harg2 : arg2.IsWhole)
    (arg3 : Memref sig .tc .vmem S512x2048 .bf16) (harg3 : arg3.IsWhole) (arg4 : Memref sig .tc .vmem S1408x2048 .bf16) (harg4 : arg4.IsWhole)
    (arg5 : Memref sig .tc .vmem S1408x2048 .bf16) (harg5 : arg5.IsWhole) (arg6 : Memref sig .tc .vmem S2048x1408 .bf16) (harg6 : arg6.IsWhole)
    (arg7 : Memref sig .tc .vmem S512x2048 .f32) (harg7 : arg7.IsWhole)
    (x0 x1 x2 : Vec F S512x2048 .bf16) (x3 x4 : Vec F S1408x2048 .bf16) (x5 : Vec F S2048x1408 .bf16) (K : PUnit → sProp 𝕄) :
    iprop(owns c arg1 fullShare x0 ∗ owns c arg2 fullShare x1 ∗ owns c arg3 fullShare x2 ∗ owns c arg4 fullShare x3 ∗ owns c arg5 fullShare x4
        ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4
            ∗ owns c arg6 fullShare x5 ∗ owns c arg7 fullShare (k1_pay1 x0 x3 x4 x1 x2 x5)) -∗ K ⟨⟩))
      ⊢ wp frame (wpE (defs₀ (F := F)) Variants.none c none) E
          (cc1__shared_kernel i arg1 harg1 arg2 harg2 arg3 harg3 arg4 harg4 arg5 harg5 arg6 harg6 arg7 harg7) K := by
  simp only [cc1__shared_kernel_eq_skeleton]; unfold cc1__shared_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (whole_cover _ (by decide) _)).trans ?_
  frame_out

end Cert.KernelIdeal.Pf

end
-- ==== Proof.KernelIdeal.Table.lean ====
/-
  The routed call's tile table: whatever the data, each of its sixteen entries is at most seven — a count of at most
  eight comparisons, capped by seven — so every weight block the table selects lies inside its array.
-/
module

public import proofs.«01_k».proof.Proof.Gen.KernelIdeal.Regions
public import proofs.«01_k».proof.Proof.KernelIdeal.Body
public import Idealize.ShloMosaic.Lib.StableHlo.RunRead
public import Idealize.ShloMosaic.Lib.Routing.Ops

@[expose] public section

noncomputable section

namespace Cert.KernelIdeal.Pf

open Cert.KernelIdeal Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ)

/-- The sixteen tiles' experts from the inclusive tile counts of the eight experts: how many of the counts a tile's
    number has reached, capped by seven. -/
def tileTable (cum : IVec S8 32) : IVec S16 32 :=
  minsi (Host.reduce IntOp.addi
      (extui 32 (cmpi .sle (broadcastInDim S16x8 ![0, 1] bcast_S1x8_S16x8_0_1 (broadcastInDim S1x8 ![1] bcast_S8_S1x8_1 cum))
        (broadcastInDim S16x8 ![0, 1] bcast_S16x1_S16x8_0_1 (broadcastInDim S16x1 ![0] bcast_S16_S16x1_0 (iotaInDim S16 32 0)))) natLt_1_32)
      (constantI S_ 32 0#32) reducesTo_S16x8_S16_d1 h_S_)
    (broadcastInDim S16 ![] bcast_S_S16 (constantI S_ 32 7#32))

/-- A count of at most eight capped by seven, as a word. -/
theorem cap_word (n : Nat) (h : n ≤ 8) : IntOp.minsi (BitVec.ofNat 32 n) 7#32 = BitVec.ofNat 32 (min n 7) := by
  interval_cases n <;> decide

/-- The row counts of a mask of eight columns, capped by seven, are below eight. -/
theorem capped_lt (msk : IVec S16x8 1) (j : Fin 16) :
    (IntOp.minsi (Host.reduce IntOp.addi (extui 32 msk natLt_1_32) (constantI S_ 32 0#32) reducesTo_S16x8_S16_d1 h_S_ (ix1 j)) 7#32).toNat < 8 := by
  have h := Routing.reduce_count (n := 16) (m := 8) (by norm_num) msk natLt_1_32 reducesTo_S16x8_S16_d1 h_S_ j
    (fun q => ∃ hq : q < 8, msk (ix2 j ⟨q, hq⟩) = 1#1)
    (fun q => ⟨fun hq => ⟨q.isLt, hq⟩, fun ⟨_, hq⟩ => hq⟩)
  have h' : Host.reduce IntOp.addi (extui 32 msk natLt_1_32) (constantI S_ 32 0#32) reducesTo_S16x8_S16_d1 h_S_ (ix1 j)
      = BitVec.ofNat 32 (Nat.count (fun q => ∃ hq : q < 8, msk (ix2 j ⟨q, hq⟩) = 1#1) 8) := h
  rw [h', cap_word _ (Nat.count_le _), BitVec.toNat_ofNat]
  omega

/-- An entry is at most seven. -/
theorem tileTable_lt (cum : IVec S8 32) (i : S16.Idx) : (tileTable cum i).toNat < 8 := by
  obtain ⟨j, rfl⟩ : ∃ j : Fin 16, i = ix1 j := ⟨i 0, by funext a; fin_cases a; rfl⟩
  exact capped_lt _ j

/-- What the host leaves in the table's buffer before the routed call. -/
theorem table_read (c : Dev nD) : V13 m c (Proc.devRef .tc main_v79) = tileTable (V11 m c (Proc.devRef .tc main_v38)) := by
  rw [V13_of m c main_v79 (by decide)]
  unfold V12 tileTable
  after_reads_simp

/-- The table's contents at the routed call. -/
def tbl : pre0.Contents (Elt F) := fun k => V13 m 0 (Proc.devRef .tc (pre0.ref k))

/-- Every entry of it is at most seven. -/
theorem tbl_lt (i : S16.Idx) : (tbl m 0 i : BitVec 32).toNat < 8 := by
  have h : (tbl m 0 : IVec S16 32) = tileTable (V11 m 0 (Proc.devRef .tc main_v38)) := table_read m 0
  have h2 := tileTable_lt (V11 m 0 (Proc.devRef .tc main_v38)) i
  rw [← h] at h2
  exact h2

/-- A first coordinate below eight, the two others at the block's, is a block inside the up and gate weights, -/
theorem blk_in_up (v : BitVec 32) (hv : v.toNat < 8) :
    ∀ a : Fin 3, ((![v.toNat, (0#32).toNat, (0#32).toNat] : Fin 3 → Nat) a + 1) * S1x1408x2048.size a ≤ S8x1408x2048.size a := by
  intro a
  fin_cases a
  · show (v.toNat + 1) * 1 ≤ 8; omega
  · show (0 + 1) * 1408 ≤ 1408; omega
  · show (0 + 1) * 2048 ≤ 2048; omega

/-- and inside the down weights. -/
theorem blk_in_down (v : BitVec 32) (hv : v.toNat < 8) :
    ∀ a : Fin 3, ((![v.toNat, (0#32).toNat, (0#32).toNat] : Fin 3 → Nat) a + 1) * S1x2048x1408.size a ≤ S8x2048x1408.size a := by
  intro a
  fin_cases a
  · show (v.toNat + 1) * 1 ≤ 8; omega
  · show (0 + 1) * 2048 ≤ 2048; omega
  · show (0 + 1) * 1408 ≤ 1408; omega

/-- So the table is admissible. -/
theorem tbl_ok : ok0 (F := F) (tbl m) := by
  unfold ok0
  refine ⟨fun i => ⟨blk_in_up _ (tbl_lt m _), .inr (Affine.block_words_dvd (of_decide_eq_true rfl) (by decide))⟩,
    fun i => ⟨blk_in_up _ (tbl_lt m _), .inr (Affine.block_words_dvd (of_decide_eq_true rfl) (by decide))⟩,
    fun i => ⟨blk_in_down _ (tbl_lt m _), .inr (Affine.block_words_dvd (of_decide_eq_true rfl) (by decide))⟩⟩

/-- The admissible contents of the two pipelines' tables: the routed call's table; the shared call has none. -/
def adm : (p : Fin 2) → (pcfgs (F := F) p).Adm
  | ⟨0, _⟩ => ⟨tbl m, tbl_ok m⟩
  | ⟨1, _⟩ => cfg1.toPCfg_adm

end Cert.KernelIdeal.Pf
-- ==== Proof.KernelIdeal.Region0.lean ====
/-
  The routed call's proof data, at any admissible table, and the obligation of its body at every point.
-/
module

public import proofs.«01_k».proof.Proof.KernelIdeal.Table
public import Idealize.ShloMosaic.Lib.Pipeline.RegionArraysTS

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : (pcfg0 (F := F)).Adm)
/-- The body at a point, on what the pipeline calls it with. -/
abbrev bodyAt0 (t : Fin (cfg0 a).N) : Prog (TpuEff nD τ sig (Elt F) Λ₀ .tc) PUnit :=
  cc0__routed_kernel (grid0.coords t) (Memref.whole main_v79) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

variable (V : (c : Dev nD) → Valuation τ sig (Elt F))

/-- What a point reads of window `w`'s array, as the call finds it. -/
abbrev iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Proc.devRef .tc (Pipeline.arrRef (cfg0 a).spec w)))

/-- The call's proof data: the arrays as found, every input's buffer left at the block read, the output's at the payload. -/
def dat0 (c : Dev nD) : Dat τ (Elt F) Unit ℕ UU ℕ (cfg0 a) c where
  A w := V c (Proc.devRef .tc (Pipeline.arrRef (cfg0 a).spec w))
  after w t := match w with
    | ⟨0, _⟩ => iblk0 a V c 0 t
    | ⟨1, _⟩ => iblk0 a V c 1 t
    | ⟨2, _⟩ => iblk0 a V c 2 t
    | ⟨3, _⟩ => iblk0 a V c 3 t
    | ⟨4, _⟩ => iblk0 a V c 4 t
    | ⟨5, _⟩ => k0_pay1 (iblk0 a V c 0 t) (iblk0 a V c 2 t) (iblk0 a V c 3 t) (iblk0 a V c 1 t) (iblk0 a V c 4 t)
  Φ _ := iprop(iprop(Pipeline.scopedRest (Ix := Unit) (Name := ℕ) (U := UU) (Lvl := ℕ) (Val := Elt F) (cfg0 a).spec c ∗ ∃ r, prngReg c r) ∗ Pipeline.prefHeld pre0 c (fun _ => fullShare) a.1)
  q _ := fullShare
  owed _ := 0

theorem after0_0 (c : Dev nD) (t) : (dat0 a V c).after 0 t = iblk0 a V c 0 t := rfl
theorem before0_0 (c : Dev nD) (t : Fin (cfg0 a).N) (d) : (dat0 a V c).before 0 t d = iblk0 a V c 0 t :=
  ((dat0 a V c).before_in_eq_fetched 0 rfl (fun _ => rfl) (fun _ _ _ => rfl) (fun t => by rw [after0_0]; unfold Dat.blockOf iblk0; rfl) t d).trans
    (by unfold Dat.fetched Dat.blockOf iblk0; rfl)
theorem after0_1 (c : Dev nD) (t) : (dat0 a V c).after 1 t = iblk0 a V c 1 t := rfl
theorem before0_1 (c : Dev nD) (t : Fin (cfg0 a).N) (d) : (dat0 a V c).before 1 t d = iblk0 a V c 1 t :=
  ((dat0 a V c).before_in_eq_fetched 1 rfl (fun _ => rfl) (fun _ _ _ => rfl) (fun t => by rw [after0_1]; unfold Dat.blockOf iblk0; rfl) t d).trans
    (by unfold Dat.fetched Dat.blockOf iblk0; rfl)
theorem after0_2 (c : Dev nD) (t) : (dat0 a V c).after 2 t = iblk0 a V c 2 t := rfl
theorem before0_2 (c : Dev nD) (t : Fin (cfg0 a).N) (d) : (dat0 a V c).before 2 t d = iblk0 a V c 2 t :=
  ((dat0 a V c).before_in_eq_fetched 2 rfl (fun _ => rfl) (fun _ _ _ => rfl) (fun t => by rw [after0_2]; unfold Dat.blockOf iblk0; rfl) t d).trans
    (by unfold Dat.fetched Dat.blockOf iblk0; rfl)
theorem after0_3 (c : Dev nD) (t) : (dat0 a V c).after 3 t = iblk0 a V c 3 t := rfl
theorem before0_3 (c : Dev nD) (t : Fin (cfg0 a).N) (d) : (dat0 a V c).before 3 t d = iblk0 a V c 3 t :=
  ((dat0 a V c).before_in_eq_fetched 3 rfl (fun _ => rfl) (fun _ _ _ => rfl) (fun t => by rw [after0_3]; unfold Dat.blockOf iblk0; rfl) t d).trans
    (by unfold Dat.fetched Dat.blockOf iblk0; rfl)
theorem after0_4 (c : Dev nD) (t) : (dat0 a V c).after 4 t = iblk0 a V c 4 t := rfl
theorem before0_4 (c : Dev nD) (t : Fin (cfg0 a).N) (d) : (dat0 a V c).before 4 t d = iblk0 a V c 4 t :=
  ((dat0 a V c).before_in_eq_fetched 4 rfl (fun _ => rfl) (fun _ _ _ => rfl) (fun t => by rw [after0_4]; unfold Dat.blockOf iblk0; rfl) t d).trans
    (by unfold Dat.fetched Dat.blockOf iblk0; rfl)
theorem after0_5 (c : Dev nD) (t) : (dat0 a V c).after 5 t = k0_pay1 (iblk0 a V c 0 t) (iblk0 a V c 2 t) (iblk0 a V c 3 t) (iblk0 a V c 1 t) (iblk0 a V c 4 t) := rfl

/-- The body at a point, over the staging buffers' contents. -/
theorem point0 (c : Dev nD) (t : Fin (cfg0 a).N) :
    iprop((dat0 a V c).Φ t.castSucc ∗ (dat0 a V c).owesAt () t.castSucc
        ∗ (∃ d, owns c (((cfg0 a).win 0).stage ((cfg0 a).slots t 0)) fullShare ((dat0 a V c).before 0 t d))
        ∗ (∃ d, owns c (((cfg0 a).win 1).stage ((cfg0 a).slots t 1)) fullShare ((dat0 a V c).before 1 t d))
        ∗ (∃ d, owns c (((cfg0 a).win 2).stage ((cfg0 a).slots t 2)) fullShare ((dat0 a V c).before 2 t d))
        ∗ (∃ d, owns c (((cfg0 a).win 3).stage ((cfg0 a).slots t 3)) fullShare ((dat0 a V c).before 3 t d))
        ∗ (∃ d, owns c (((cfg0 a).win 4).stage ((cfg0 a).slots t 4)) fullShare ((dat0 a V c).before 4 t d))
        ∗ (∃ d, owns c (((cfg0 a).win 5).stage ((cfg0 a).slots t 5)) fullShare ((dat0 a V c).before 5 t d)))
      ⊢ wp frame (wpE (defs₀ (F := F)) Variants.none c none) Set.univ (bodyAt0 a t) fun _ =>
        iprop((dat0 a V c).Φ t.succ ∗ (dat0 a V c).owesAt () t.succ
        ∗ owns c (((cfg0 a).win 0).stage ((cfg0 a).slots t 0)) fullShare ((dat0 a V c).after 0 t)
        ∗ owns c (((cfg0 a).win 1).stage ((cfg0 a).slots t 1)) fullShare ((dat0 a V c).after 1 t)
        ∗ owns c (((cfg0 a).win 2).stage ((cfg0 a).slots t 2)) fullShare ((dat0 a V c).after 2 t)
        ∗ owns c (((cfg0 a).win 3).stage ((cfg0 a).slots t 3)) fullShare ((dat0 a V c).after 3 t)
        ∗ owns c (((cfg0 a).win 4).stage ((cfg0 a).slots t 4)) fullShare ((dat0 a V c).after 4 t)
        ∗ owns c (((cfg0 a).win 5).stage ((cfg0 a).slots t 5)) fullShare ((dat0 a V c).after 5 t)) := by
  simp only [before0_0, before0_1, before0_2, before0_3, before0_4]
  rw [show (dat0 a V c).Φ t.succ = (dat0 a V c).Φ t.castSucc from rfl, show (dat0 a V c).owesAt () t.succ = (dat0 a V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound0 (F := F) c Set.univ (grid0.coords t) _ _ _ _ _ _ _ _ _ _ _ _ _ _ (iblk0 a V c 0 t) (iblk0 a V c 1 t) (iblk0 a V c 2 t) (iblk0 a V c 3 t) (iblk0 a V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The program's row for the call is that body. -/
theorem row0 (t : Fin (cfg0 a).N) : defs₀ (F := F) .tc (cfg0 a).body ((cfg0 a).bodyArgs t ((cfg0 a).slots t)) = bodyAt0 a t := by
  unfold defs₀; rw [Defs.onTc_tc]

/-- The library's obligation of the body. -/
theorem obligation0 (c : Dev nD) : BodyObligation (dat0 a V c) (defs₀ (F := F)) Variants.none () Set.univ := fun t => by
  rw [bigSep_W0, bigSep_W0, row0]
  exact triple_restated (point0 a V c t) rfl .rfl fun _ => .rfl

end Cert.KernelIdeal.Pf
-- ==== Proof.KernelIdeal.Region1.lean ====
/-
  The shared call's proof data and the obligation of its body at every point.
-/
module

public import proofs.«01_k».proof.Proof.KernelIdeal.Table
public import Idealize.ShloMosaic.Lib.Pipeline.RegionArraysTS

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → Valuation τ sig (Elt F))

/-- What a point reads of window `w`'s array, as the call finds it. -/
abbrev iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef cfg1.spec w)))

/-- The call's proof data: the arrays as found, every input's buffer left at the block read, the output's at the payload. -/
def dat1 (c : Dev nD) : Dat τ (Elt F) Unit ℕ UU ℕ cfg1 c where
  A w := V c (Proc.devRef .tc (Pipeline.arrRef cfg1.spec w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (iblk1 V c 0 t) (iblk1 V c 3 t) (iblk1 V c 4 t) (iblk1 V c 1 t) (iblk1 V c 2 t) (iblk1 V c 5 t)
  Φ _ := iprop(Pipeline.scopedRest (Ix := Unit) (Name := ℕ) (U := UU) (Lvl := ℕ) (Val := Elt F) cfg1.spec c ∗ ∃ r, prngReg c r)
  q _ := fullShare
  owed _ := 0

theorem after1_0 (c : Dev nD) (t) : (dat1 V c).after 0 t = iblk1 V c 0 t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rfl) t d).trans
    (by unfold Dat.fetched Dat.blockOf iblk1; rfl)
theorem after1_1 (c : Dev nD) (t) : (dat1 V c).after 1 t = iblk1 V c 1 t := by dsimp only [dat1]
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rfl) t d).trans
    (by unfold Dat.fetched Dat.blockOf iblk1; rfl)
theorem after1_2 (c : Dev nD) (t) : (dat1 V c).after 2 t = iblk1 V c 2 t := by dsimp only [dat1]
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rfl) t d).trans
    (by unfold Dat.fetched Dat.blockOf iblk1; rfl)
theorem after1_3 (c : Dev nD) (t) : (dat1 V c).after 3 t = iblk1 V c 3 t := by dsimp only [dat1]
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rfl) t d).trans
    (by unfold Dat.fetched Dat.blockOf iblk1; rfl)
theorem after1_4 (c : Dev nD) (t) : (dat1 V c).after 4 t = iblk1 V c 4 t := by dsimp only [dat1]
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rfl) t d).trans
    (by unfold Dat.fetched Dat.blockOf iblk1; rfl)
theorem after1_5 (c : Dev nD) (t) : (dat1 V c).after 5 t = iblk1 V c 5 t := by dsimp only [dat1]
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rfl) t d).trans
    (by unfold Dat.fetched Dat.blockOf iblk1; rfl)
theorem after1_6 (c : Dev nD) (t) : (dat1 V c).after 6 t = k1_pay1 (iblk1 V c 0 t) (iblk1 V c 3 t) (iblk1 V c 4 t) (iblk1 V c 1 t) (iblk1 V c 2 t) (iblk1 V c 5 t) := by dsimp only [dat1]

/-- The body at a point, over the staging buffers' contents. -/
theorem point1 (c : Dev nD) (t : Fin cfg1.N) :
    iprop((dat1 V c).Φ t.castSucc ∗ (dat1 V c).owesAt () t.castSucc
        ∗ (∃ d, owns c ((cfg1.win 0).stage (cfg1.slots t 0)) fullShare ((dat1 V c).before 0 t d))
        ∗ (∃ d, owns c ((cfg1.win 1).stage (cfg1.slots t 1)) fullShare ((dat1 V c).before 1 t d))
        ∗ (∃ d, owns c ((cfg1.win 2).stage (cfg1.slots t 2)) fullShare ((dat1 V c).before 2 t d))
        ∗ (∃ d, owns c ((cfg1.win 3).stage (cfg1.slots t 3)) fullShare ((dat1 V c).before 3 t d))
        ∗ (∃ d, owns c ((cfg1.win 4).stage (cfg1.slots t 4)) fullShare ((dat1 V c).before 4 t d))
        ∗ (∃ d, owns c ((cfg1.win 5).stage (cfg1.slots t 5)) fullShare ((dat1 V c).before 5 t d))
        ∗ (∃ d, owns c ((cfg1.win 6).stage (cfg1.slots t 6)) fullShare ((dat1 V c).before 6 t d)))
      ⊢ wp frame (wpE (defs₀ (F := F)) Variants.none c none) Set.univ (bodyAt1 t) fun _ =>
        iprop((dat1 V c).Φ t.succ ∗ (dat1 V c).owesAt () t.succ
        ∗ owns c ((cfg1.win 0).stage (cfg1.slots t 0)) fullShare ((dat1 V c).after 0 t)
        ∗ owns c ((cfg1.win 1).stage (cfg1.slots t 1)) fullShare ((dat1 V c).after 1 t)
        ∗ owns c ((cfg1.win 2).stage (cfg1.slots t 2)) fullShare ((dat1 V c).after 2 t)
        ∗ owns c ((cfg1.win 3).stage (cfg1.slots t 3)) fullShare ((dat1 V c).after 3 t)
        ∗ owns c ((cfg1.win 4).stage (cfg1.slots t 4)) fullShare ((dat1 V c).after 4 t)
        ∗ owns c ((cfg1.win 5).stage (cfg1.slots t 5)) fullShare ((dat1 V c).after 5 t)
        ∗ owns c ((cfg1.win 6).stage (cfg1.slots t 6)) fullShare ((dat1 V c).after 6 t)) := by
  simp only [before1_0, before1_1, before1_2, before1_3, before1_4, before1_5]
  rw [show (dat1 V c).Φ t.succ = (dat1 V c).Φ t.castSucc from rfl, show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound1 (F := F) c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The program's row for the call is that body. -/
theorem row1 (t : Fin cfg1.N) : defs₀ (F := F) .tc cfg1.body (cfg1.bodyArgs t (cfg1.slots t)) = bodyAt1 t := by
  unfold defs₀; rw [Defs.onTc_tc]

/-- The library's obligation of the body. -/
theorem obligation1 (c : Dev nD) : BodyObligation (dat1 V c) (defs₀ (F := F)) Variants.none () Set.univ := fun t => by
  rw [bigSep_W1, bigSep_W1, row1]
  exact triple_restated (point1 V c t) rfl .rfl fun _ => .rfl

end Cert.KernelIdeal.Pf
-- ==== Proof.KernelIdeal.Run.lean ====
/-
  The run of the whole program: the two calls as segments between the host's, and what every run ends with — the
  arguments as launched, the result at the host's reading of the second call's output, every counter at zero.
-/
module

public import proofs.«01_k».proof.Proof.KernelIdeal.Region0
public import proofs.«01_k».proof.Proof.KernelIdeal.Region1

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the two calls leave, the second one's from what the first one's entries give. -/
def outsA : Outs (F := F) := fun _ r c => Pipeline.afterRegion (dat0 (adm m 0) (V13 m) c) (V13 m c) (Proc.devRef .tc r)

/-- The host's buffers as the second call finds them. -/
abbrev W19 (c : Dev nD) : Valuation τ sig (Elt F) := V19 m (outsA m) c

/-- What the calls leave. -/
def outs : Outs (F := F) := fun n r c => match n with
  | 20 => Pipeline.afterRegion (dat1 (W19 m) c) (W19 m c) (Proc.devRef .tc r)
  | _ => outsA m n r c

theorem W19_eq (c : Dev nD) : V19 m (outs m) c = W19 m c := rfl

/-- The two calls' proof data. -/
def pdats : (p : Fin 2) → (c : Dev nD) → Dat τ (Elt F) Unit ℕ UU ℕ (Pipeline.pin (pcfgs (F := F)) (adm m) p) c
  | ⟨0, _⟩ => fun c => dat0 (adm m 0) (V13 m) c
  | ⟨1, _⟩ => fun c => dat1 (W19 m) c

/-- Every wait is at one level, on the TensorCores' semaphores. -/
def Lv : GSem nD τ sig → Finset Unit := fun g => if g.1.2 = .tc then Finset.univ else ∅
abbrev lv0 : GSem nD τ sig → Unit → ℕ := fun _ _ => 0

theorem Lv_tc (g : GSem nD τ sig) (h : g.1.2 ≠ .tc) : Lv g = ∅ := if_neg h

theorem level_cut (p : Fin 2) : Pipeline.LevelCut (pcfgs (F := F)) (adm m) () Lv lv0 p (fun _ => 0) (fun _ => 0) where
  hι c w s := by
    show () ∈ (if (.tc : Proc τ) = .tc then (Finset.univ : Finset Unit) else ∅)
    rw [if_pos rfl]; exact Finset.mem_univ _
  hιb _ _ _ := le_rfl
  hD _ _ _ h := absurd h (lt_irrefl _)

/-- What rides beside the buffers: nothing owed, the generator's register. -/
def EE (_ : Fin 3) (c : Dev nD) : sProp 𝕄 :=
  iprop((∃ Wd, owes (c : Thread nD τ) (0 : CellTallies nD τ sig Unit) Wd) ∗ (∃ r, prngReg c r) ∗ BI.emp)

/-- The routed call as a segment. -/
def seg_routed : Pipeline.RegionSeg (pcfgs (F := F)) (adm m) (pdats m) () defs₀ Variants.none Lv lv0 0 :=
  Pipeline.RegionSeg.ofHeldInT (pcfgs (F := F)) (adm m) (pdats m) () defs₀ Variants.none Lv lv0 0 (fun _ => 0) (Pipeline.ucRefs τ sig)
    (fun c => iprop(∃ r, prngReg c r)) (fun c => iprop(∃ r, prngReg c r)) launch0
    (fun c => (obligation0 (adm m 0) (V13 m) c).loose) (fun _ _ => rfl) (fun _ => rfl) (fun c w => (pdats m 0 c).share_full (fun _ => rfl) w)
    (fun c => .rfl) (fun c => .rfl) (fun _ => 0) (level_cut m 0) (fun _ => BI.emp) (V13 m) (fun _ _ => rfl)
    (fun c k => by obtain rfl := Subsingleton.elim c 0; rfl)

/-- The shared call as a segment. -/
def seg_shared : Pipeline.RegionSeg (pcfgs (F := F)) (adm m) (pdats m) () defs₀ Variants.none Lv lv0 1 :=
  Pipeline.RegionSeg.ofHeldIn (pcfgs (F := F)) (adm m) (pdats m) () defs₀ Variants.none Lv lv0 1 (fun _ => 0) (Pipeline.ucRefs τ sig)
    (fun c => iprop(∃ r, prngReg c r)) (fun c => iprop(∃ r, prngReg c r)) launch1 rfl
    (fun c => (obligation1 (W19 m) c).loose) (fun _ _ => rfl) (fun _ => rfl) (fun c w => (pdats m 1 c).share_full (fun _ => rfl) w)
    (fun c => .rfl) (fun c => .rfl) (fun _ => 0) (level_cut m 1) (fun _ => BI.emp) (W19 m) (fun _ _ => rfl)

theorem routed_pre (c : Dev nD) : iprop(StableHlo.held (c : Thread nD τ) (Pipeline.ucRefs τ sig) (V13 m c) ∗ EE 0 c) ⊢ (seg_routed m).pre c := by
  unfold EE seg_routed
  exact Pipeline.RegionSeg.ofHeldInT_pre (pcs := pcfgs (F := F)) (a := adm m) (pdats := pdats m) (p := 0) (D := fun _ => 0) (S := Pipeline.ucRefs τ sig)
    (W := V13 m) (X := fun c => iprop(∃ r, prngReg c r)) (R := fun _ => BI.emp) (Pipeline.arrRefs_sub_ucRefs _ (launch0 (F := F)).win.arr_unscoped) (Pipeline.tblRefs_sub_ucRefs _ (launch0 (F := F)).pre.unscoped) c

theorem shared_pre (c : Dev nD) : iprop(StableHlo.held (c : Thread nD τ) (Pipeline.ucRefs τ sig) (V19 m (outs m) c) ∗ EE 1 c) ⊢ (seg_shared m).pre c := by
  unfold EE seg_shared
  rw [W19_eq]
  exact Pipeline.RegionSeg.ofHeldIn_pre (pcs := pcfgs (F := F)) (a := adm m) (pdats := pdats m) (p := 1) (D := fun _ => 0) (S := Pipeline.ucRefs τ sig)
    (W := W19 m) (X := fun c => iprop(∃ r, prngReg c r)) (R := fun _ => BI.emp) (Pipeline.arrRefs_sub_ucRefs _ (launch1 (F := F)).win.arr_unscoped) c

/-- The routed call changes its output's array only, -/
theorem routed_after (c : Dev nD) (b : DevRef τ sig) (hb : b ∈ Pipeline.ucRefs τ sig) :
    Pipeline.afterRegion (pdats m 0 c) (V13 m c) b = V14 m (outs m) c b := by
  obtain ⟨hb, -⟩ := Finset.mem_filter.mp hb
  obtain ⟨r, -, rfl⟩ := Finset.mem_map.mp hb
  show Pipeline.afterRegion (pdats m 0 c) (V13 m c) (Proc.devRef .tc r) = V14 m (outs m) c (Proc.devRef .tc r)
  by_cases h : r = main_v85
  · subst h
    simp only [V14, Function.update_self]
    rfl
  · refine (Pipeline.afterRegion_keeps (pdats m 0 c) (V13 m c) (launch0 (F := F)).win.arr_inj (fun _ => rfl) r ?_).trans
      (V14_of m (outs m) c r (by simpa using h)).symm
    intro w hw
    fin_cases w
    all_goals first | rfl | exact absurd hw.symm h

/-- and so does the shared call. -/
theorem shared_after (c : Dev nD) (b : DevRef τ sig) (hb : b ∈ Pipeline.ucRefs τ sig) :
    Pipeline.afterRegion (pdats m 1 c) (W19 m c) b = V20 m (outs m) c b := by
  obtain ⟨hb, -⟩ := Finset.mem_filter.mp hb
  obtain ⟨r, -, rfl⟩ := Finset.mem_map.mp hb
  show Pipeline.afterRegion (pdats m 1 c) (W19 m c) (Proc.devRef .tc r) = V20 m (outs m) c (Proc.devRef .tc r)
  by_cases h : r = main_v93
  · subst h
    simp only [V20, Function.update_self]
    rfl
  · refine (Pipeline.afterRegion_keeps (pdats m 1 c) (W19 m c) (launch1 (F := F)).win.arr_inj (fun _ => rfl) r ?_).trans
      (V20_of m (outs m) c r (by simpa using h)).symm
    intro w hw
    fin_cases w
    all_goals first | rfl | exact absurd hw.symm h

theorem routed_post (c : Dev nD) : (seg_routed m).post c ⊢ iprop(StableHlo.held (c : Thread nD τ) (Pipeline.ucRefs τ sig) (V14 m (outs m) c) ∗ EE 1 c) := by
  rw [← StableHlo.held_congr (c : Thread nD τ) (routed_after m c)]
  unfold EE seg_routed
  exact Pipeline.RegionSeg.ofHeldInT_post (Pipeline.arrRefs_sub_ucRefs _ (launch0 (F := F)).win.arr_unscoped) (Pipeline.tblRefs_sub_ucRefs _ (launch0 (F := F)).pre.unscoped) c

theorem shared_post (c : Dev nD) : (seg_shared m).post c ⊢ iprop(StableHlo.held (c : Thread nD τ) (Pipeline.ucRefs τ sig) (V20 m (outs m) c) ∗ EE 2 c) := by
  rw [← StableHlo.held_congr (c : Thread nD τ) (shared_after m c)]
  unfold EE seg_shared
  exact Pipeline.RegionSeg.ofHeldIn_post (Pipeline.arrRefs_sub_ucRefs _ (launch1 (F := F)).win.arr_unscoped) c

theorem EE_end (c : Dev nD) : EE (F := F) 2 c ⊢ (iprop(∃ W, owes (c : Thread nD τ) (0 : CellTallies nD τ sig Unit) W) : sProp 𝕄) := by
  unfold EE
  iintro ⟨H, -⟩
  iexact H

/-- The launch gives each core that. -/
theorem EE_start (ρ : Dev nD → PrngReg) :
    iprop((bigSep Finset.univ fun c : Dev nD => iprop(unscopedSems0 c ∗ owes (c : Thread nD τ) 0 ∅ ∗ Pipeline.launchCred (fun _ => 0) c ∗ prngReg c (ρ c) ∗ BI.emp)) ∗ levAts Lv lv0)
      ⊢ (|={Set.univ}=> bigSep Finset.univ (EE (F := F) 0) : sProp 𝕄) := by
  refine Pipeline.initEach (L := Lv) (lv := lv0) (U := UU) fun c => ?_
  unfold EE
  iintro ⟨⟨-, HO, -, HP, -⟩, -⟩
  imodintro
  isplitl [HO]
  · iexists ∅; iexact HO
  isplitl [HP]
  · iexists ρ c; iexact HP
  iempintro

/-- The pipelines' tokens at launch. -/
def u₀ : UU :=
  (initOf (Pipeline.cells (Pipeline.pin (pcfgs (F := F)) (adm m)) (cellOf_inj (adm m))) (Pipeline.launchToks (Pipeline.pin (pcfgs (F := F)) (adm m)) (cellOf_inj (adm m))), 1)

theorem u₀_own : (ownU (u₀ m) : sProp 𝕄) ⊢ |={Set.univ}=> iprop(BI.own ((embL : Emb (UR sig nD τ) 𝕄)
    (initOf (Pipeline.cells (Pipeline.pin (pcfgs (F := F)) (adm m)) (cellOf_inj (adm m))) (Pipeline.launchToks (Pipeline.pin (pcfgs (F := F)) (adm m)) (cellOf_inj (adm m))))) ∗ bigSep Finset.univ fun _ : Dev nD => BI.emp) := by
  unfold u₀
  iintro Hu
  ihave H := (ownU_pair _ _) $$ Hu
  icases H with ⟨HP, -⟩
  imodintro
  isplitl [HP]
  · iexact HP
  iapply (show BI.emp ⊢ bigSep Finset.univ (fun _ : Dev nD => (BI.emp : sProp 𝕄)) from by rw [BI.bigSep_emp_const])
  iempintro

set_option backward.isDefEq.respectTransparency.types false in
/-- Every run ends, with the result at the last valuation's, the arguments as launched and the counters at zero. -/
theorem run (ρ : Dev nD → PrngReg) :
    θ_run defs (onTc (τ := τ) (main (F := F))) ⟨m, fun _ => 0, ρ⟩ (fun r => (∀ c : Dev nD,
      r.2.mem ((c.tc : Thread nD τ).loc main_v94) = V21 m (outs m) c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine Pipeline.θ_run_regions_kit_dev_sems (pcfgs (F := F)) (adm m) (pdats m) () (cellOf_inj (adm m)) embL defs₀ Variants.none Lv lv0 m ρ main
    (segs m (outs m) Variants.none Lv lv0 EE () (adm m) (pdats m) (seg_routed m) (seg_shared m))
    (fun c Q => by
      rewrite [main_chain c, Pipeline.Seg.run_eq_chain,
        show (segs m (outs m) Variants.none Lv lv0 EE () (adm m) (pdats m) (seg_routed m) (seg_shared m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0) Lv_tc (fun _ => BI.emp) (u₀ m) (u₀_own m)
    (T₀ := fun c => iprop(StableHlo.held (c : Thread nD τ) (Pipeline.ucRefs τ sig) (V0 m c) ∗ EE 0 c))
    (Tₙ := fun c => StableHlo.held (c : Thread nD τ) (Pipeline.ucRefs τ sig) (V21 m (outs m) c))
    (hch := fun c => ⟨.rfl, .rfl, .rfl, .rfl, .rfl, .rfl, .rfl, .rfl, .rfl, .rfl, .rfl, .rfl, .rfl, routed_pre m c, routed_post m c, .rfl, .rfl, .rfl, .rfl, shared_pre m c, shared_post m c, sep_mono .rfl (EE_end c)⟩)
    (hinit := ?_) (QY := fun c s => s.mem ((c.tc : Thread nD τ).loc main_v94) = V21 m (outs m) c main_v94 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred (fun _ => 0) c ∗ prngReg c (ρ c) ∗ BI.emp))
            : sProp (MT nD τ sig Unit (Elt F) ℕ UU ℕ)) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (EE_start (F := F) ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V21 m (outs m) c) s') $$ [Hh HSI]
    · isplitl [Hh] <;> iassumption
    icases Hr with ⟨%h, HSI⟩
    imodintro
    isplitr
    · ipureintro
      exact ⟨h (Proc.devRef .tc main_v94) (Finset.mem_filter.mpr ⟨StableHlo.devRef_mem_tcRefs main_v94, by decide⟩),
        (h (Proc.devRef .tc main_arg0) (Finset.mem_filter.mpr ⟨StableHlo.devRef_mem_tcRefs main_arg0, by decide⟩)).trans (V21_main_arg0 m (outs m) c),
        (h (Proc.devRef .tc main_arg1) (Finset.mem_filter.mpr ⟨StableHlo.devRef_mem_tcRefs main_arg1, by decide⟩)).trans (V21_main_arg1 m (outs m) c),
        (h (Proc.devRef .tc main_arg2) (Finset.mem_filter.mpr ⟨StableHlo.devRef_mem_tcRefs main_arg2, by decide⟩)).trans (V21_main_arg2 m (outs m) c),
        (h (Proc.devRef .tc main_arg3) (Finset.mem_filter.mpr ⟨StableHlo.devRef_mem_tcRefs main_arg3, by decide⟩)).trans (V21_main_arg3 m (outs m) c),
        (h (Proc.devRef .tc main_arg4) (Finset.mem_filter.mpr ⟨StableHlo.devRef_mem_tcRefs main_arg4, by decide⟩)).trans (V21_main_arg4 m (outs m) c),
        (h (Proc.devRef .tc main_arg5) (Finset.mem_filter.mpr ⟨StableHlo.devRef_mem_tcRefs main_arg5, by decide⟩)).trans (V21_main_arg5 m (outs m) c),
        (h (Proc.devRef .tc main_arg6) (Finset.mem_filter.mpr ⟨StableHlo.devRef_mem_tcRefs main_arg6, by decide⟩)).trans (V21_main_arg6 m (outs m) c),
        (h (Proc.devRef .tc main_arg7) (Finset.mem_filter.mpr ⟨StableHlo.devRef_mem_tcRefs main_arg7, by decide⟩)).trans (V21_main_arg7 m (outs m) c),
        (h (Proc.devRef .tc main_arg8) (Finset.mem_filter.mpr ⟨StableHlo.devRef_mem_tcRefs main_arg8, by decide⟩)).trans (V21_main_arg8 m (outs m) c)⟩
    · iexact HSI

/-- The frame: the same without the result. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_mono (run m ρ) fun _ h => ⟨fun c => (h.1 c).2, h.2⟩

end Cert.KernelIdeal.Pf
-- ==== Proof.Value.Host.lean ====
/-
  The stretches of host operations between the calls, each result that is read later as one vector expression.
-/
module

public import proofs.«01_k».proof.Proof.KernelIdeal.Table

@[expose] public section

noncomputable section

namespace Cert.KernelIdeal.Pf

open Cert.KernelIdeal Cert.KernelIdeal.Gen
open Idealize.ShloMosaic Idealize.ShloMosaic.TcCoe Idealize.ShloMosaic.Tactic

variable {F : FTy → Type} [FloatOps F]

/-- The tokens as rows. -/
def xOf (x0 : FVec F S1x2048x2048 .f32) : FVec F S2048x2048 .f32 :=
  shapeCast S2048x2048 x0 shapeCasts_S1x2048x2048_S2048x2048

/-- Every token's score for every expert. -/
def scoresOf (x0 : FVec F S1x2048x2048 .f32) (gw : FVec F S8x2048 .f32) : FVec F S2048x8 .f32 :=
  let cst_0 : FVec F S_ .f32 := (constant S_ .f32 0x3F800000#32)
  let v7 : FVec F S2048x8 .f32 := (broadcastInDim S2048x8 ![] bcast_S_S2048x8) cst_0
  let cst : FVec F S_ .f32 := (constant S_ .f32 0x3F800000#32)
  let v5 : FVec F S2048x8 .f32 := (broadcastInDim S2048x8 ![] bcast_S_S2048x8) cst
  let v0 : FVec F S2048x2048 .f32 := shapeCast S2048x2048 x0 shapeCasts_S1x2048x2048_S2048x2048
  let v1 : FVec F S2048x8 .f32 := (transpose S2048x8 [1, 0] gw transposes_S8x2048_S2048x8_1_0)
  let v2 : FVec F S2048x8 .f32 := (fun l r => Host.dotGeneral dot_S2048x2048_S2048x8_S2048x8_1_0_0_1_n_n none l r) v0 v1
  let v3 : FVec F S2048x8 .f32 := Host.negf v2
  let v4 : FVec F S2048x8 .f32 := Host.exp v3
  let v6 : FVec F S2048x8 .f32 := addf v5 v4
  Host.divf v7 v6

/-- The two experts chosen for every token. -/
def choiceOf (sc : FVec F S2048x8 .f32) (gb : FVec F S8 .f32) : IVec S2048x2 32 :=
  let v9 : FVec F S1x8 .f32 := (broadcastInDim S1x8 ![1] bcast_S8_S1x8_1) gb
  let v10 : FVec F S2048x8 .f32 := (broadcastInDim S2048x8 ![0, 1] bcast_S1x8_S2048x8_0_1) v9
  let v11 : FVec F S2048x8 .f32 := addf sc v10
  (fun x => (Host.topK S2048x2 1 (FloatOps.cmpfTotal .gt) x sliceFits_S2048x8_S2048x2).2) v11

/-- The scores of the chosen experts. -/
def pickedOf (sc : FVec F S2048x8 .f32) (ch : IVec S2048x2 32) : FVec F S2048x2 .f32 :=
  let call0_c : IVec S_ 32 := (constantI S_ 32 0#32)
  let call0_v0 : IVec S2048x2 32 := (broadcastInDim S2048x2 ![] bcast_S_S2048x2) call0_c
  let call0_v1 : IVec S2048x2 1 := (cmpi .slt) ch call0_v0
  let call0_c_0 : IVec S_ 32 := (constantI S_ 32 8#32)
  let call0_v2 : IVec S2048x2 32 := (broadcastInDim S2048x2 ![] bcast_S_S2048x2) call0_c_0
  let call0_v3 : IVec S2048x2 32 := addi ch call0_v2
  let call0_v4 : IVec S2048x2 32 := select call0_v1 call0_v3 ch
  let call0_v5 : IVec S2048x2x1 32 := shapeCast S2048x2x1 call0_v4 shapeCasts_S2048x2_S2048x2x1
  let call0_c_2 : IVec S_ 32 := (constantI S_ 32 0#32)
  let call0_v6 : IVec S2048x2x1 32 := (broadcastInDim S2048x2x1 ![] bcast_S_S2048x2x1) call0_c_2
  let call0_v7 : IVec S2048x2x1 1 := (cmpi .sge) call0_v5 call0_v6
  let call0_c_1 : IVec S1 32 := (constantI S1 32 7#32)
  let call0_v8 : IVec S1x1x1 32 := (broadcastInDim S1x1x1 ![2] bcast_S1_S1x1x1_2) call0_c_1
  let call0_v9 : IVec S2048x2x1 32 := (broadcastInDim S2048x2x1 ![0, 1, 2] bcast_S1x1x1_S2048x2x1_0_1_2) call0_v8
  let call0_v10 : IVec S2048x2x1 1 := (cmpi .sle) call0_v5 call0_v9
  let call0_v11 : IVec S2048x2x1 1 := andi call0_v7 call0_v10
  let call0_c_3 : IVec S_ 1 := (constantI S_ 1 1#1)
  let call0_v12 : IVec S2048x2 1 := (fun x v => Host.reduce IntOp.andi x v reducesTo_S2048x2x1_S2048x2_d2 h_S_) call0_v11 call0_c_3
  let call0_v13 : FVec F S2048x2 .f32 := (fun x i => Host.gather gather_S2048x8_S2048x2x1_S2048x2_n_1_0_0_1_2_11 x i) sc call0_v5
  let call0_cst : FVec F S_ .f32 := (constant S_ .f32 0x7FC00000#32)
  let call0_v14 : FVec F S2048x2 .f32 := (broadcastInDim S2048x2 ![] bcast_S_S2048x2) call0_cst
  select call0_v12 call0_v13 call0_v14

/-- The weights of the chosen experts. -/
def weightsOf (pk : FVec F S2048x2 .f32) : FVec F S2048x2 .f32 :=
  let cst_1 : FVec F S_ .f32 := (constant S_ .f32 0x00000000#32)
  let v13 : FVec F S2048 .f32 := (fun x v => Host.reduceAdd x v reducesTo_S2048x2_S2048_d1 h_S_) pk cst_1
  let v14 : FVec F S2048x1 .f32 := (broadcastInDim S2048x1 ![0] bcast_S2048_S2048x1_0) v13
  let cst_2 : FVec F S_ .f32 := (constant S_ .f32 0x1E3CE508#32)
  let v15 : FVec F S2048x1 .f32 := (broadcastInDim S2048x1 ![] bcast_S_S2048x1) cst_2
  let v16 : FVec F S2048x1 .f32 := addf v14 v15
  let v17 : FVec F S2048x2 .f32 := (broadcastInDim S2048x2 ![0, 1] bcast_S2048x1_S2048x2_0_1) v16
  let v18 : FVec F S2048x2 .f32 := Host.divf pk v17
  let cst_3 : FVec F S_ .f32 := (constant S_ .f32 0x40200000#32)
  let v19 : FVec F S2048x2 .f32 := (broadcastInDim S2048x2 ![] bcast_S_S2048x2) cst_3
  mulf v18 v19

/-- The choices in one row, two to a token. -/
def flatChoice (ch : IVec S2048x2 32) : IVec S4096 32 :=
  shapeCast S4096 ch shapeCasts_S2048x2_S4096

/-- The weights in one row, two to a token. -/
def flatWeights (w : FVec F S2048x2 .f32) : FVec F S4096 .f32 :=
  shapeCast S4096 w shapeCasts_S2048x2_S4096

/-- A choice's token. -/
def tokenOf : IVec S4096 32 :=
  let v23 : IVec S2048 32 := (iotaInDim S2048 32 0)
  let v24 : IVec S2048x2 32 := (broadcastInDim S2048x2 ![0] bcast_S2048_S2048x2_0) v23
  shapeCast S4096 v24 shapeCasts_S2048x2_S4096

/-- One where a choice is an expert, else zero. -/
def oneHot (a : IVec S4096 32) : IVec S4096x8 32 :=
  let call1_v0 : IVec S4096x1 32 := (broadcastInDim S4096x1 ![0] bcast_S4096_S4096x1_0) a
  let call1_v2 : IVec S4096x8 32 := (broadcastInDim S4096x8 ![0, 1] bcast_S4096x1_S4096x8_0_1) call1_v0
  let call1_v1 : IVec S1x8 32 := (iotaInDim S1x8 32 1)
  let call1_v3 : IVec S4096x8 32 := (broadcastInDim S4096x8 ![0, 1] bcast_S1x8_S4096x8_0_1) call1_v1
  let call1_v4 : IVec S4096x8 1 := (cmpi .eq) call1_v2 call1_v3
  (extui 32 call1_v4 natLt_1_32)

/-- How many choices every expert has. -/
def countsOf (oh : IVec S4096x8 32) : IVec S8 32 :=
  let c : IVec S_ 32 := (constantI S_ 32 0#32)
  (fun x v => Host.reduce IntOp.addi x v reducesTo_S4096x8_S8_d0 h_S_) oh c

/-- How many choices of every expert come up to a position. -/
def runningOf (oh : IVec S4096x8 32) : IVec S4096x8 32 :=
  let call2_call0_c : IVec S_ 32 := (constantI S_ 32 0#32)
  let call2_call0_v0 : IVec S_ 32 := (broadcastInDim S_ ![] bcast_S_S_) call2_call0_c
  (fun x v => Host.reduceWindow IntOp.addi ![4096, 1] ![1, 1] ![4095, 0] ![0, 0] x v reduceWindows_S4096x8_S4096x8_w4096s1p4095_0_w1s1p0_0 h_S_) oh call2_call0_v0

/-- How many come before it. -/
def earlierOf (rn : IVec S4096x8 32) (oh : IVec S4096x8 32) : IVec S4096x8 32 :=
  subi rn oh

/-- The choices as a column. -/
def columnOf (a : IVec S4096 32) : IVec S4096x1 32 :=
  (broadcastInDim S4096x1 ![0] bcast_S4096_S4096x1_0) a

/-- A choice's rank among its expert's choices. -/
def rankPick (ea : IVec S4096x8 32) (cl : IVec S4096x1 32) : IVec S4096x1 32 :=
  let call3_c : IVec S_ 32 := (constantI S_ 32 0#32)
  let call3_v0 : IVec S4096x1 32 := (broadcastInDim S4096x1 ![] bcast_S_S4096x1) call3_c
  let call3_v1 : IVec S4096x1 1 := (cmpi .slt) cl call3_v0
  let call3_c_0 : IVec S_ 32 := (constantI S_ 32 8#32)
  let call3_v2 : IVec S4096x1 32 := (broadcastInDim S4096x1 ![] bcast_S_S4096x1) call3_c_0
  let call3_v3 : IVec S4096x1 32 := addi cl call3_v2
  let call3_v4 : IVec S4096x1 32 := select call3_v1 call3_v3 cl
  let call3_v5 : IVec S4096x1x1 32 := shapeCast S4096x1x1 call3_v4 shapeCasts_S4096x1_S4096x1x1
  let call3_c_2 : IVec S_ 32 := (constantI S_ 32 0#32)
  let call3_v6 : IVec S4096x1x1 32 := (broadcastInDim S4096x1x1 ![] bcast_S_S4096x1x1) call3_c_2
  let call3_v7 : IVec S4096x1x1 1 := (cmpi .sge) call3_v5 call3_v6
  let call3_c_1 : IVec S1 32 := (constantI S1 32 7#32)
  let call3_v8 : IVec S1x1x1 32 := (broadcastInDim S1x1x1 ![2] bcast_S1_S1x1x1_2) call3_c_1
  let call3_v9 : IVec S4096x1x1 32 := (broadcastInDim S4096x1x1 ![0, 1, 2] bcast_S1x1x1_S4096x1x1_0_1_2) call3_v8
  let call3_v10 : IVec S4096x1x1 1 := (cmpi .sle) call3_v5 call3_v9
  let call3_v11 : IVec S4096x1x1 1 := andi call3_v7 call3_v10
  let call3_c_3 : IVec S_ 1 := (constantI S_ 1 1#1)
  let call3_v12 : IVec S4096x1 1 := (fun x v => Host.reduce IntOp.andi x v reducesTo_S4096x1x1_S4096x1_d2 h_S_) call3_v11 call3_c_3
  let call3_v13 : IVec S4096x1 32 := (fun x i => Host.gather gather_S4096x8_S4096x1x1_S4096x1_n_1_0_0_1_2_11 x i) ea call3_v5
  let call3_c_4 : IVec S_ 32 := (constantI S_ 32 2147483648#32)
  let call3_v14 : IVec S4096x1 32 := (broadcastInDim S4096x1 ![] bcast_S_S4096x1) call3_c_4
  select call3_v12 call3_v13 call3_v14

/-- The ranks in one row. -/
def flatRank (rk : IVec S4096x1 32) : IVec S4096 32 :=
  shapeCast S4096 rk shapeCasts_S4096x1_S4096

/-- The counts, ready for a division that rounds up. -/
def roundUp (ct : IVec S8 32) : IVec S8 32 :=
  let c_4 : IVec S_ 32 := (constantI S_ 32 512#32)
  let v33 : IVec S8 32 := (broadcastInDim S8 ![] bcast_S_S8) c_4
  let v34 : IVec S8 32 := addi ct v33
  let c_5 : IVec S_ 32 := (constantI S_ 32 1#32)
  let v35 : IVec S8 32 := (broadcastInDim S8 ![] bcast_S_S8) c_5
  subi v34 v35

/-- The slots of a tile. -/
def tileSize : IVec S_ 32 :=
  (constantI S_ 32 512#32)

/-- How many tiles every expert fills. -/
def tilesOf (ru : IVec S8 32) (ts : IVec S_ 32) : IVec S8 32 :=
  let call4_v3 : IVec S8 32 := signi ru
  let call4_v0 : IVec S_ 32 := ts
  let call4_v4 : IVec S_ 32 := signi call4_v0
  let call4_v5 : IVec S8 32 := (broadcastInDim S8 ![] bcast_S_S8) call4_v4
  let call4_v6 : IVec S8 1 := (cmpi .ne) call4_v3 call4_v5
  let call4_v7 : IVec S8 32 := (broadcastInDim S8 ![] bcast_S_S8) call4_v0
  let call4_v8 : IVec S8 32 := Host.remsi ru call4_v7
  let call4_c : IVec S_ 32 := (constantI S_ 32 0#32)
  let call4_v9 : IVec S8 32 := (broadcastInDim S8 ![] bcast_S_S8) call4_c
  let call4_v10 : IVec S8 1 := (cmpi .ne) call4_v8 call4_v9
  let call4_v11 : IVec S8 1 := andi call4_v6 call4_v10
  let call4_v1 : IVec S8 32 := (broadcastInDim S8 ![] bcast_S_S8) call4_v0
  let call4_v2 : IVec S8 32 := Host.divsi ru call4_v1
  let call4_c_0 : IVec S_ 32 := (constantI S_ 32 1#32)
  let call4_v12 : IVec S8 32 := (broadcastInDim S8 ![] bcast_S_S8) call4_c_0
  let call4_v13 : IVec S8 32 := subi call4_v2 call4_v12
  select call4_v11 call4_v13 call4_v2

/-- How many tiles the experts up to one fill. -/
def cumTiles (tl : IVec S8 32) : IVec S8 32 :=
  let call5_call0_c : IVec S_ 32 := (constantI S_ 32 0#32)
  let call5_call0_v0 : IVec S_ 32 := (broadcastInDim S_ ![] bcast_S_S_) call5_call0_c
  (fun x v => Host.reduceWindow IntOp.addi ![8] ![1] ![7] ![0] x v reduceWindows_S8_S8_w8s1p7_0 h_S_) tl call5_call0_v0

/-- A choice's slot. -/
def slotOf (cum : IVec S8 32) (tl : IVec S8 32) (a : IVec S4096 32) (rk : IVec S4096 32) : IVec S4096 32 :=
  let v39 : IVec S8 32 := subi cum tl
  let c_7 : IVec S_ 32 := (constantI S_ 32 512#32)
  let v40 : IVec S8 32 := (broadcastInDim S8 ![] bcast_S_S8) c_7
  let v41 : IVec S8 32 := muli v39 v40
  let c_8 : IVec S_ 32 := (constantI S_ 32 0#32)
  let v42 : IVec S4096 32 := (broadcastInDim S4096 ![] bcast_S_S4096) c_8
  let v43 : IVec S4096 1 := (cmpi .slt) a v42
  let c_9 : IVec S_ 32 := (constantI S_ 32 8#32)
  let v44 : IVec S4096 32 := (broadcastInDim S4096 ![] bcast_S_S4096) c_9
  let v45 : IVec S4096 32 := addi a v44
  let v46 : IVec S4096 32 := select v43 v45 a
  let v47 : IVec S4096x1 32 := (broadcastInDim S4096x1 ![0] bcast_S4096_S4096x1_0) v46
  let v48 : IVec S4096 32 := (fun x i => Host.gather gather_S8_S4096x1_S4096_n_0_n_n_0_1_1 x i) v41 v47
  addi v48 rk

/-- The token in every slot. -/
def slotToken (sl : IVec S4096 32) (tk : IVec S4096 32) : IVec S8192 32 :=
  let c_10 : IVec S_ 32 := (constantI S_ 32 0#32)
  let v50 : IVec S8192 32 := (broadcastInDim S8192 ![] bcast_S_S8192) c_10
  let c_11 : IVec S_ 32 := (constantI S_ 32 0#32)
  let v51 : IVec S4096 32 := (broadcastInDim S4096 ![] bcast_S_S4096) c_11
  let v52 : IVec S4096 1 := (cmpi .slt) sl v51
  let c_12 : IVec S_ 32 := (constantI S_ 32 8192#32)
  let v53 : IVec S4096 32 := (broadcastInDim S4096 ![] bcast_S_S4096) c_12
  let v54 : IVec S4096 32 := addi sl v53
  let v55 : IVec S4096 32 := select v52 v54 sl
  let v56 : IVec S4096x1 32 := (broadcastInDim S4096x1 ![0] bcast_S4096_S4096x1_0) v55
  (fun x i u => Host.scatter scatter_S8192_S4096x1_S4096_n_0_0_1 (fun _ b => b) x i u) v50 v56 tk

/-- The weight in every slot. -/
def slotWeight (sl : IVec S4096 32) (w : FVec F S4096 .f32) : FVec F S8192x1 .f32 :=
  let cst_13 : FVec F S_ .f32 := (constant S_ .f32 0x00000000#32)
  let v58 : FVec F S8192x1 .f32 := (broadcastInDim S8192x1 ![] bcast_S_S8192x1) cst_13
  let c_14 : IVec S_ 32 := (constantI S_ 32 0#32)
  let v59 : IVec S4096 32 := (broadcastInDim S4096 ![] bcast_S_S4096) c_14
  let v60 : IVec S4096 1 := (cmpi .slt) sl v59
  let c_15 : IVec S_ 32 := (constantI S_ 32 8192#32)
  let v61 : IVec S4096 32 := (broadcastInDim S4096 ![] bcast_S_S4096) c_15
  let v62 : IVec S4096 32 := addi sl v61
  let v63 : IVec S4096 32 := select v60 v62 sl
  let v66 : IVec S4096x1 32 := (broadcastInDim S4096x1 ![0] bcast_S4096_S4096x1_0) v63
  let c_16 : IVec S_ 32 := (constantI S_ 32 0#32)
  let v64 : IVec S4096 32 := (broadcastInDim S4096 ![] bcast_S_S4096) c_16
  let v65 : IVec S4096 32 := v64
  let v67 : IVec S4096x1 32 := (broadcastInDim S4096x1 ![0] bcast_S4096_S4096x1_0) v65
  let v68 : IVec S4096x2 32 := (fun a b => concatenate S4096x2 1 [⟨S4096x1, a⟩, ⟨S4096x1, b⟩] concatenates_S4096x1_S4096x1_S4096x2_d1) v66 v67
  (fun x i u => Host.scatter scatter_S8192x1_S4096x2_S4096_n_01_01_1 (fun _ b => b) x i u) v58 v68 w

/-- The rows of the tokens in the slots. -/
def tokenRows (x : FVec F S2048x2048 .bf16) (st : IVec S8192 32) : FVec F S8192x2048 .bf16 :=
  let call6_c : IVec S_ 32 := (constantI S_ 32 0#32)
  let call6_v0 : IVec S8192 32 := (broadcastInDim S8192 ![] bcast_S_S8192) call6_c
  let call6_v1 : IVec S8192 1 := (cmpi .slt) st call6_v0
  let call6_c_0 : IVec S_ 32 := (constantI S_ 32 2048#32)
  let call6_v2 : IVec S8192 32 := (broadcastInDim S8192 ![] bcast_S_S8192) call6_c_0
  let call6_v3 : IVec S8192 32 := addi st call6_v2
  let call6_v4 : IVec S8192 32 := select call6_v1 call6_v3 st
  let call6_v5 : IVec S8192x1 32 := (broadcastInDim S8192x1 ![0] bcast_S8192_S8192x1_0) call6_v4
  let call6_c_2 : IVec S_ 32 := (constantI S_ 32 0#32)
  let call6_v6 : IVec S8192x1 32 := (broadcastInDim S8192x1 ![] bcast_S_S8192x1) call6_c_2
  let call6_v7 : IVec S8192x1 1 := (cmpi .sge) call6_v5 call6_v6
  let call6_c_1 : IVec S1 32 := (constantI S1 32 2047#32)
  let call6_v8 : IVec S1x1 32 := (broadcastInDim S1x1 ![1] bcast_S1_S1x1_1) call6_c_1
  let call6_v9 : IVec S8192x1 32 := (broadcastInDim S8192x1 ![0, 1] bcast_S1x1_S8192x1_0_1) call6_v8
  let call6_v10 : IVec S8192x1 1 := (cmpi .sle) call6_v5 call6_v9
  let call6_v11 : IVec S8192x1 1 := andi call6_v7 call6_v10
  let call6_c_3 : IVec S_ 1 := (constantI S_ 1 1#1)
  let call6_v12 : IVec S8192 1 := (fun x v => Host.reduce IntOp.andi x v reducesTo_S8192x1_S8192_d1 h_S_) call6_v11 call6_c_3
  let call6_v14 : IVec S8192x2048 1 := (broadcastInDim S8192x2048 ![0] bcast_S8192_S8192x2048_0) call6_v12
  let call6_v13 : FVec F S8192x2048 .bf16 := (fun x i => Host.gather gather_S2048x2048_S8192x1_S8192x2048_1_0_n_n_0_1_12048 x i) x call6_v5
  let call6_cst : FVec F S_ .bf16 := (constant S_ .bf16 0x7FC0#16)
  let call6_v15 : FVec F S8192x2048 .bf16 := (broadcastInDim S8192x2048 ![] bcast_S_S8192x2048) call6_cst
  select call6_v14 call6_v13 call6_v15

/-- The slots of the tokens' first choices. -/
def evenOf (sl : IVec S4096 32) : IVec S2048 32 :=
  (Host.slice S2048 ![0] ![2] sl slicesBy_S4096_S2048_0s2)

/-- The result rows at the slots. -/
def slotRows (res : FVec F S8192x2048 .bf16) (sl : IVec S2048 32) : FVec F S2048x2048 .bf16 :=
  let call7_c : IVec S_ 32 := (constantI S_ 32 0#32)
  let call7_v0 : IVec S2048 32 := (broadcastInDim S2048 ![] bcast_S_S2048) call7_c
  let call7_v1 : IVec S2048 1 := (cmpi .slt) sl call7_v0
  let call7_c_0 : IVec S_ 32 := (constantI S_ 32 8192#32)
  let call7_v2 : IVec S2048 32 := (broadcastInDim S2048 ![] bcast_S_S2048) call7_c_0
  let call7_v3 : IVec S2048 32 := addi sl call7_v2
  let call7_v4 : IVec S2048 32 := select call7_v1 call7_v3 sl
  let call7_v5 : IVec S2048x1 32 := (broadcastInDim S2048x1 ![0] bcast_S2048_S2048x1_0) call7_v4
  let call7_c_2 : IVec S_ 32 := (constantI S_ 32 0#32)
  let call7_v6 : IVec S2048x1 32 := (broadcastInDim S2048x1 ![] bcast_S_S2048x1) call7_c_2
  let call7_v7 : IVec S2048x1 1 := (cmpi .sge) call7_v5 call7_v6
  let call7_c_1 : IVec S1 32 := (constantI S1 32 8191#32)
  let call7_v8 : IVec S1x1 32 := (broadcastInDim S1x1 ![1] bcast_S1_S1x1_1) call7_c_1
  let call7_v9 : IVec S2048x1 32 := (broadcastInDim S2048x1 ![0, 1] bcast_S1x1_S2048x1_0_1) call7_v8
  let call7_v10 : IVec S2048x1 1 := (cmpi .sle) call7_v5 call7_v9
  let call7_v11 : IVec S2048x1 1 := andi call7_v7 call7_v10
  let call7_c_3 : IVec S_ 1 := (constantI S_ 1 1#1)
  let call7_v12 : IVec S2048 1 := (fun x v => Host.reduce IntOp.andi x v reducesTo_S2048x1_S2048_d1 h_S_) call7_v11 call7_c_3
  let call7_v14 : IVec S2048x2048 1 := (broadcastInDim S2048x2048 ![0] bcast_S2048_S2048x2048_0) call7_v12
  let call7_v13 : FVec F S2048x2048 .bf16 := (fun x i => Host.gather gather_S8192x2048_S2048x1_S2048x2048_1_0_n_n_0_1_12048 x i) res call7_v5
  let call7_cst : FVec F S_ .bf16 := (constant S_ .bf16 0x7FC0#16)
  let call7_v15 : FVec F S2048x2048 .bf16 := (broadcastInDim S2048x2048 ![] bcast_S_S2048x2048) call7_cst
  select call7_v14 call7_v13 call7_v15

/-- The slots of the tokens' second choices. -/
def oddOf (sl : IVec S4096 32) : IVec S2048 32 :=
  (Host.slice S2048 ![1] ![2] sl slicesBy_S4096_S2048_1s2)

/-- The tokens as the calls read them. -/
def castTokens (x : FVec F S2048x2048 .f32) : FVec F S2048x2048 .bf16 :=
  (truncf .bf16 x bitsLt_bf16_f32)

/-- The gate weights as the routed call reads them. -/
def castGate (w : FVec F S8x1408x2048 .f32) : FVec F S8x1408x2048 .bf16 :=
  (truncf .bf16 w bitsLt_bf16_f32)

/-- The up weights as the routed call reads them. -/
def castUp (w : FVec F S8x1408x2048 .f32) : FVec F S8x1408x2048 .bf16 :=
  (truncf .bf16 w bitsLt_bf16_f32)

/-- The down weights as the routed call reads them. -/
def castDown (w : FVec F S8x2048x1408 .f32) : FVec F S8x2048x1408 .bf16 :=
  (truncf .bf16 w bitsLt_bf16_f32)

/-- The shared gate weights as the shared call reads them. -/
def castSGate (w : FVec F S1408x2048 .f32) : FVec F S1408x2048 .bf16 :=
  (truncf .bf16 w bitsLt_bf16_f32)

/-- The shared up weights as the shared call reads them. -/
def castSUp (w : FVec F S1408x2048 .f32) : FVec F S1408x2048 .bf16 :=
  (truncf .bf16 w bitsLt_bf16_f32)

/-- The shared down weights as the shared call reads them. -/
def castSDown (w : FVec F S2048x1408 .f32) : FVec F S2048x1408 .bf16 :=
  (truncf .bf16 w bitsLt_bf16_f32)

/-- The result in its batched shape. -/
def finalOf (y : FVec F S2048x2048 .f32) : FVec F S1x2048x2048 .f32 :=
  shapeCast S1x2048x2048 y shapeCasts_S2048x2048_S1x2048x2048

end Cert.KernelIdeal.Pf
-- ==== Proof.Value.ReadA.lean ====
/-
  What the host stretches leave in the buffers that are read later.
-/
module

public import proofs.«01_k».proof.Proof.Value.Host

@[expose] public section

noncomputable section

namespace Cert.KernelIdeal.Pf

open Cert.KernelIdeal Cert.KernelIdeal.Gen
open Idealize.ShloMosaic Idealize.ShloMosaic.TcCoe Idealize.ShloMosaic.Tactic

variable {F : FTy → Type} [FloatOps F]

variable (W : Valuation τ sig (Elt F))

theorem read_xOf : StableHlo.after hostOps0 W (Proc.devRef .tc main_v0) = xOf (W (Proc.devRef .tc main_arg0)) := by
  unfold xOf
  after_reads_simp
  all_goals (try rfl)

theorem read_scoresOf : StableHlo.after hostOps0 W (Proc.devRef .tc main_v8) = scoresOf (W (Proc.devRef .tc main_arg0)) (W (Proc.devRef .tc main_arg1)) := by
  unfold scoresOf
  after_reads_simp
  all_goals (try rfl)

theorem read_choiceOf : StableHlo.after hostOps0 W (Proc.devRef .tc main_indices) = choiceOf (StableHlo.after hostOps0 W (Proc.devRef .tc main_v8)) (W (Proc.devRef .tc main_arg2)) := by
  unfold choiceOf
  after_reads_simp
  all_goals (try rfl)

theorem read_pickedOf : StableHlo.after hostOps0_1 W (Proc.devRef .tc main_v12) = pickedOf (W (Proc.devRef .tc main_v8)) (W (Proc.devRef .tc main_indices)) := by
  unfold pickedOf
  after_reads_simp
  all_goals (try simp -implicitDefEqProofs only [StableHlo.TRef.toBuf, StableHlo.TRef.ofBuf, cast_cast, cast_eq])
  all_goals (try rfl)

theorem read_weightsOf : StableHlo.after hostOps0_2 W (Proc.devRef .tc main_v20) = weightsOf (W (Proc.devRef .tc main_v12)) := by
  unfold weightsOf
  after_reads_simp
  all_goals (try rfl)

theorem read_flatChoice : StableHlo.after hostOps0_2 W (Proc.devRef .tc main_v21) = flatChoice (W (Proc.devRef .tc main_indices)) := by
  unfold flatChoice
  after_reads_simp
  all_goals (try rfl)

theorem read_flatWeights : StableHlo.after hostOps0_2 W (Proc.devRef .tc main_v22) = flatWeights (StableHlo.after hostOps0_2 W (Proc.devRef .tc main_v20)) := by
  unfold flatWeights
  after_reads_simp
  all_goals (try rfl)

theorem read_tokenOf : StableHlo.after hostOps0_2 W (Proc.devRef .tc main_v25) = tokenOf := by
  unfold tokenOf
  after_reads_simp
  all_goals (try rfl)

end Cert.KernelIdeal.Pf
-- ==== Proof.Value.ReadB.lean ====
/-
  What the host stretches leave in the buffers that are read later.
-/
module

public import proofs.«01_k».proof.Proof.Value.Host

@[expose] public section

noncomputable section

namespace Cert.KernelIdeal.Pf

open Cert.KernelIdeal Cert.KernelIdeal.Gen
open Idealize.ShloMosaic Idealize.ShloMosaic.TcCoe Idealize.ShloMosaic.Tactic

variable {F : FTy → Type} [FloatOps F]

variable (W : Valuation τ sig (Elt F))

theorem read_oneHot : StableHlo.after hostOps0_3 W (Proc.devRef .tc main_v26) = oneHot (W (Proc.devRef .tc main_v21)) := by
  unfold oneHot
  after_reads_simp
  all_goals (try simp -implicitDefEqProofs only [StableHlo.TRef.toBuf, StableHlo.TRef.ofBuf, cast_cast, cast_eq])
  all_goals (try rfl)

theorem read_countsOf : StableHlo.after hostOps0_4 W (Proc.devRef .tc main_v27) = countsOf (W (Proc.devRef .tc main_v26)) := by
  unfold countsOf
  after_reads_simp
  all_goals (try rfl)

theorem read_runningOf : StableHlo.after hostOps0_5 W (Proc.devRef .tc main_v28) = runningOf (W (Proc.devRef .tc main_v26)) := by
  unfold runningOf
  after_reads_simp
  all_goals (try simp -implicitDefEqProofs only [StableHlo.TRef.toBuf, StableHlo.TRef.ofBuf, cast_cast, cast_eq])
  all_goals (try rfl)

theorem read_earlierOf : StableHlo.after hostOps0_6 W (Proc.devRef .tc main_v29) = earlierOf (W (Proc.devRef .tc main_v28)) (W (Proc.devRef .tc main_v26)) := by
  unfold earlierOf
  after_reads_simp
  all_goals (try rfl)

theorem read_columnOf : StableHlo.after hostOps0_6 W (Proc.devRef .tc main_v30) = columnOf (W (Proc.devRef .tc main_v21)) := by
  unfold columnOf
  after_reads_simp
  all_goals (try rfl)

theorem read_rankPick : StableHlo.after hostOps0_7 W (Proc.devRef .tc main_v31) = rankPick (W (Proc.devRef .tc main_v29)) (W (Proc.devRef .tc main_v30)) := by
  unfold rankPick
  after_reads_simp
  all_goals (try simp -implicitDefEqProofs only [StableHlo.TRef.toBuf, StableHlo.TRef.ofBuf, cast_cast, cast_eq])
  all_goals (try rfl)

theorem read_flatRank : StableHlo.after hostOps0_8 W (Proc.devRef .tc main_v32) = flatRank (W (Proc.devRef .tc main_v31)) := by
  unfold flatRank
  after_reads_simp
  all_goals (try rfl)

theorem read_roundUp : StableHlo.after hostOps0_8 W (Proc.devRef .tc main_v36) = roundUp (W (Proc.devRef .tc main_v27)) := by
  unfold roundUp
  after_reads_simp
  all_goals (try rfl)

theorem read_tileSize : StableHlo.after hostOps0_8 W (Proc.devRef .tc main_c_6) = tileSize := by
  unfold tileSize
  after_reads_simp
  all_goals (try rfl)

theorem read_tilesOf : StableHlo.after hostOps0_9 W (Proc.devRef .tc main_v37) = tilesOf (W (Proc.devRef .tc main_v36)) (W (Proc.devRef .tc main_c_6)) := by
  unfold tilesOf
  after_reads_simp
  all_goals (try simp -implicitDefEqProofs only [StableHlo.TRef.toBuf, StableHlo.TRef.ofBuf, cast_cast, cast_eq])
  all_goals (try rfl)

theorem read_cumTiles : StableHlo.after hostOps0_10 W (Proc.devRef .tc main_v38) = cumTiles (W (Proc.devRef .tc main_v37)) := by
  unfold cumTiles
  after_reads_simp
  all_goals (try simp -implicitDefEqProofs only [StableHlo.TRef.toBuf, StableHlo.TRef.ofBuf, cast_cast, cast_eq])
  all_goals (try rfl)

end Cert.KernelIdeal.Pf
-- ==== Proof.Value.ReadC.lean ====
/-
  What the host stretches leave in the buffers that are read later.
-/
module

public import proofs.«01_k».proof.Proof.Value.Host

@[expose] public section

noncomputable section

namespace Cert.KernelIdeal.Pf

open Cert.KernelIdeal Cert.KernelIdeal.Gen
open Idealize.ShloMosaic Idealize.ShloMosaic.TcCoe Idealize.ShloMosaic.Tactic

variable {F : FTy → Type} [FloatOps F]

variable (W : Valuation τ sig (Elt F))

theorem read_slotOf : StableHlo.after hostOps0_11 W (Proc.devRef .tc main_v49) = slotOf (W (Proc.devRef .tc main_v38)) (W (Proc.devRef .tc main_v37)) (W (Proc.devRef .tc main_v21)) (W (Proc.devRef .tc main_v32)) := by
  unfold slotOf
  after_reads_simp
  all_goals (try rfl)

theorem read_slotToken : StableHlo.after hostOps0_11 W (Proc.devRef .tc main_v57) = slotToken (StableHlo.after hostOps0_11 W (Proc.devRef .tc main_v49)) (W (Proc.devRef .tc main_v25)) := by
  unfold slotToken
  after_reads_simp
  all_goals (try rfl)

theorem read_slotWeight : StableHlo.after hostOps0_11 W (Proc.devRef .tc main_v69) = slotWeight (slotOf (W (Proc.devRef .tc main_v38)) (W (Proc.devRef .tc main_v37)) (W (Proc.devRef .tc main_v21)) (W (Proc.devRef .tc main_v32))) (W (Proc.devRef .tc main_v22)) := by
  generalize hs : slotOf (W (Proc.devRef .tc main_v38)) (W (Proc.devRef .tc main_v37)) (W (Proc.devRef .tc main_v21)) (W (Proc.devRef .tc main_v32)) = sl
  after_reads_simp
  subst hs
  rfl

theorem read_tokenRows : StableHlo.after hostOps0_12 W (Proc.devRef .tc main_v84) = tokenRows (W (Proc.devRef .tc main_v80)) (W (Proc.devRef .tc main_v57)) := by
  unfold tokenRows
  after_reads_simp
  all_goals (try simp -implicitDefEqProofs only [StableHlo.TRef.toBuf, StableHlo.TRef.ofBuf, cast_cast, cast_eq])
  all_goals (try rfl)

theorem read_evenOf : StableHlo.after hostOps1 W (Proc.devRef .tc main_v86) = evenOf (W (Proc.devRef .tc main_v49)) := by
  unfold evenOf
  after_reads_simp
  all_goals (try rfl)

theorem read_slotRows : StableHlo.after hostOps1_1 W (Proc.devRef .tc main_v87) = slotRows (W (Proc.devRef .tc main_v85)) (W (Proc.devRef .tc main_v86)) := by
  unfold slotRows
  after_reads_simp
  all_goals (try simp -implicitDefEqProofs only [StableHlo.TRef.toBuf, StableHlo.TRef.ofBuf, cast_cast, cast_eq])
  all_goals (try rfl)

theorem read_oddOf : StableHlo.after hostOps1_2 W (Proc.devRef .tc main_v88) = oddOf (W (Proc.devRef .tc main_v49)) := by
  unfold oddOf
  after_reads_simp
  all_goals (try rfl)

theorem read_castTokens : StableHlo.after hostOps0_11 W (Proc.devRef .tc main_v80) = castTokens (W (Proc.devRef .tc main_v0)) := by
  unfold castTokens
  after_reads_simp
  all_goals (try rfl)

theorem read_castGate : StableHlo.after hostOps0_11 W (Proc.devRef .tc main_v81) = castGate (W (Proc.devRef .tc main_arg3)) := by
  unfold castGate
  after_reads_simp
  all_goals (try rfl)

theorem read_castUp : StableHlo.after hostOps0_11 W (Proc.devRef .tc main_v82) = castUp (W (Proc.devRef .tc main_arg4)) := by
  unfold castUp
  after_reads_simp
  all_goals (try rfl)

theorem read_castDown : StableHlo.after hostOps0_11 W (Proc.devRef .tc main_v83) = castDown (W (Proc.devRef .tc main_arg5)) := by
  unfold castDown
  after_reads_simp
  all_goals (try rfl)

theorem read_castSGate : StableHlo.after hostOps1_4 W (Proc.devRef .tc main_v90) = castSGate (W (Proc.devRef .tc main_arg6)) := by
  unfold castSGate
  after_reads_simp
  all_goals (try rfl)

theorem read_castSUp : StableHlo.after hostOps1_4 W (Proc.devRef .tc main_v91) = castSUp (W (Proc.devRef .tc main_arg7)) := by
  unfold castSUp
  after_reads_simp
  all_goals (try rfl)

theorem read_castSDown : StableHlo.after hostOps1_4 W (Proc.devRef .tc main_v92) = castSDown (W (Proc.devRef .tc main_arg8)) := by
  unfold castSDown
  after_reads_simp
  all_goals (try rfl)

theorem read_finalOf : StableHlo.after hostOps2 W (Proc.devRef .tc main_v94) = finalOf (W (Proc.devRef .tc main_v93)) := by
  unfold finalOf
  after_reads_simp
  all_goals (try rfl)

theorem read_slotRows_second : StableHlo.after hostOps1_3 W (Proc.devRef .tc main_v89) = slotRows (W (Proc.devRef .tc main_v85)) (W (Proc.devRef .tc main_v88)) := by
  unfold slotRows
  after_reads_simp
  all_goals (try simp -implicitDefEqProofs only [StableHlo.TRef.toBuf, StableHlo.TRef.ofBuf, cast_cast, cast_eq])
  all_goals (try rfl)

end Cert.KernelIdeal.Pf
-- ==== Proof.Value.Chain.lean ====
/-
  The buffers at the two calls, as expressions of the arguments.
-/
module

public import proofs.«01_k».proof.Proof.KernelIdeal.Run
public import proofs.«01_k».proof.Proof.Value.ReadA
public import proofs.«01_k».proof.Proof.Value.ReadB
public import proofs.«01_k».proof.Proof.Value.ReadC

@[expose] public section

noncomputable section

namespace Cert.KernelIdeal.Pf

open Cert.KernelIdeal Cert.KernelIdeal.Gen
open Idealize.ShloMosaic Idealize.ShloMosaic.TcCoe Idealize.ShloMosaic.Tactic

variable {F : FTy → Type} [FloatOps F]

/-- How many choices every expert has, from the choices. -/
def countsA (a : IVec S4096 32) : IVec S8 32 := countsOf (oneHot a)
/-- How many tiles. -/
def tilesA (a : IVec S4096 32) : IVec S8 32 := tilesOf (roundUp (countsA a)) tileSize
/-- How many tiles up to an expert. -/
def cumA (a : IVec S4096 32) : IVec S8 32 := cumTiles (tilesA a)
/-- A choice's rank. -/
def rankA (a : IVec S4096 32) : IVec S4096 32 := flatRank (rankPick (earlierOf (runningOf (oneHot a)) (oneHot a)) (columnOf a))
/-- A choice's slot. -/
def slotsA (a : IVec S4096 32) : IVec S4096 32 := slotOf (cumA a) (tilesA a) a (rankA a)

variable (m : (ℓ : Loc nD τ sig) → Buf (Elt F) ℓ)

abbrev aX (c : Dev nD) : FVec F S1x2048x2048 .f32 := m ((c.tc : Thread nD τ).loc main_arg0)
abbrev aGw (c : Dev nD) : FVec F S8x2048 .f32 := m ((c.tc : Thread nD τ).loc main_arg1)
abbrev aGb (c : Dev nD) : FVec F S8 .f32 := m ((c.tc : Thread nD τ).loc main_arg2)
abbrev aG (c : Dev nD) : FVec F S8x1408x2048 .f32 := m ((c.tc : Thread nD τ).loc main_arg3)
abbrev aU (c : Dev nD) : FVec F S8x1408x2048 .f32 := m ((c.tc : Thread nD τ).loc main_arg4)
abbrev aD (c : Dev nD) : FVec F S8x2048x1408 .f32 := m ((c.tc : Thread nD τ).loc main_arg5)
abbrev aSG (c : Dev nD) : FVec F S1408x2048 .f32 := m ((c.tc : Thread nD τ).loc main_arg6)
abbrev aSU (c : Dev nD) : FVec F S1408x2048 .f32 := m ((c.tc : Thread nD τ).loc main_arg7)
abbrev aSD (c : Dev nD) : FVec F S2048x1408 .f32 := m ((c.tc : Thread nD τ).loc main_arg8)

/-- The choices, from the arguments. -/
def choiceM (c : Dev nD) : IVec S2048x2 32 := choiceOf (scoresOf (aX m c) (aGw m c)) (aGb m c)
/-- The weights. -/
def weightM (c : Dev nD) : FVec F S2048x2 .f32 := weightsOf (pickedOf (scoresOf (aX m c) (aGw m c)) (choiceM m c))
/-- The choices in one row. -/
def flatM (c : Dev nD) : IVec S4096 32 := flatChoice (choiceM m c)

theorem at_v0 (c : Dev nD) : V1 m c (Proc.devRef .tc main_v0) = xOf (aX m c) := by
  refine (read_xOf (V0 m c)).trans ?_
  try rfl

theorem at_v8 (c : Dev nD) : V1 m c (Proc.devRef .tc main_v8) = scoresOf (aX m c) (aGw m c) := by
  refine (read_scoresOf (V0 m c)).trans ?_
  try rfl

theorem at_indices (c : Dev nD) : V1 m c (Proc.devRef .tc main_indices) = choiceM m c := by
  refine (read_choiceOf (V0 m c)).trans ?_
  rw [show StableHlo.after hostOps0 (V0 m c) (Proc.devRef .tc main_v8) = scoresOf (aX m c) (aGw m c) from at_v8 m c]
  try rfl

theorem at_v12 (c : Dev nD) : V2 m c (Proc.devRef .tc main_v12) = pickedOf (scoresOf (aX m c) (aGw m c)) (choiceM m c) := by
  refine (read_pickedOf (V1 m c)).trans ?_
  rw [at_v8 m c]
  rw [at_indices m c]
  try rfl

theorem at_v20 (c : Dev nD) : V3 m c (Proc.devRef .tc main_v20) = weightM m c := by
  refine (read_weightsOf (V2 m c)).trans ?_
  rw [at_v12 m c]
  try rfl

theorem at_v21 (c : Dev nD) : V3 m c (Proc.devRef .tc main_v21) = flatM m c := by
  refine (read_flatChoice (V2 m c)).trans ?_
  rw [V2_of m c main_indices (by decide), at_indices m c]
  try rfl

theorem at_v22 (c : Dev nD) : V3 m c (Proc.devRef .tc main_v22) = flatWeights (weightM m c) := by
  refine (read_flatWeights (V2 m c)).trans ?_
  rw [show StableHlo.after hostOps0_2 (V2 m c) (Proc.devRef .tc main_v20) = weightM m c from at_v20 m c]
  try rfl

theorem at_v25 (c : Dev nD) : V3 m c (Proc.devRef .tc main_v25) = tokenOf := by
  refine (read_tokenOf (V2 m c)).trans ?_
  try rfl

theorem at_v26 (c : Dev nD) : V4 m c (Proc.devRef .tc main_v26) = oneHot (flatM m c) := by
  refine (read_oneHot (V3 m c)).trans ?_
  rw [at_v21 m c]
  try rfl

theorem at_v27 (c : Dev nD) : V5 m c (Proc.devRef .tc main_v27) = countsA (flatM m c) := by
  refine (read_countsOf (V4 m c)).trans ?_
  rw [at_v26 m c]
  try rfl

theorem at_v28 (c : Dev nD) : V6 m c (Proc.devRef .tc main_v28) = runningOf (oneHot (flatM m c)) := by
  refine (read_runningOf (V5 m c)).trans ?_
  rw [V5_of m c main_v26 (by decide), at_v26 m c]
  try rfl

theorem at_v29 (c : Dev nD) : V7 m c (Proc.devRef .tc main_v29) = earlierOf (runningOf (oneHot (flatM m c))) (oneHot (flatM m c)) := by
  refine (read_earlierOf (V6 m c)).trans ?_
  rw [at_v28 m c]
  rw [V6_of m c main_v26 (by decide), V5_of m c main_v26 (by decide), at_v26 m c]
  try rfl

theorem at_v30 (c : Dev nD) : V7 m c (Proc.devRef .tc main_v30) = columnOf (flatM m c) := by
  refine (read_columnOf (V6 m c)).trans ?_
  rw [V6_of m c main_v21 (by decide), V5_of m c main_v21 (by decide), V4_of m c main_v21 (by decide), at_v21 m c]
  try rfl

theorem at_v31 (c : Dev nD) : V8 m c (Proc.devRef .tc main_v31) = rankPick (earlierOf (runningOf (oneHot (flatM m c))) (oneHot (flatM m c))) (columnOf (flatM m c)) := by
  refine (read_rankPick (V7 m c)).trans ?_
  rw [at_v29 m c]
  rw [at_v30 m c]
  try rfl

theorem at_v32 (c : Dev nD) : V9 m c (Proc.devRef .tc main_v32) = rankA (flatM m c) := by
  refine (read_flatRank (V8 m c)).trans ?_
  rw [at_v31 m c]
  try rfl

theorem at_v36 (c : Dev nD) : V9 m c (Proc.devRef .tc main_v36) = roundUp (countsA (flatM m c)) := by
  refine (read_roundUp (V8 m c)).trans ?_
  rw [V8_of m c main_v27 (by decide), V7_of m c main_v27 (by decide), V6_of m c main_v27 (by decide), at_v27 m c]
  try rfl

theorem at_c_6 (c : Dev nD) : V9 m c (Proc.devRef .tc main_c_6) = tileSize := by
  refine (read_tileSize (V8 m c)).trans ?_
  try rfl

theorem at_v37 (c : Dev nD) : V10 m c (Proc.devRef .tc main_v37) = tilesA (flatM m c) := by
  refine (read_tilesOf (V9 m c)).trans ?_
  rw [at_v36 m c]
  rw [at_c_6 m c]
  try rfl

theorem at_v38 (c : Dev nD) : V11 m c (Proc.devRef .tc main_v38) = cumA (flatM m c) := by
  refine (read_cumTiles (V10 m c)).trans ?_
  rw [at_v37 m c]
  try rfl

theorem at_v49 (c : Dev nD) : V12 m c (Proc.devRef .tc main_v49) = slotsA (flatM m c) := by
  refine (read_slotOf (V11 m c)).trans ?_
  rw [at_v38 m c]
  rw [V11_of m c main_v37 (by decide), at_v37 m c]
  rw [V11_of m c main_v21 (by decide), V10_of m c main_v21 (by decide), V9_of m c main_v21 (by decide), V8_of m c main_v21 (by decide), V7_of m c main_v21 (by decide), V6_of m c main_v21 (by decide), V5_of m c main_v21 (by decide), V4_of m c main_v21 (by decide), at_v21 m c]
  rw [V11_of m c main_v32 (by decide), V10_of m c main_v32 (by decide), at_v32 m c]
  try rfl

theorem at_v57 (c : Dev nD) : V12 m c (Proc.devRef .tc main_v57) = slotToken (slotsA (flatM m c)) tokenOf := by
  refine (read_slotToken (V11 m c)).trans ?_
  rw [show StableHlo.after hostOps0_11 (V11 m c) (Proc.devRef .tc main_v49) = slotsA (flatM m c) from at_v49 m c]
  rw [V11_of m c main_v25 (by decide), V10_of m c main_v25 (by decide), V9_of m c main_v25 (by decide), V8_of m c main_v25 (by decide), V7_of m c main_v25 (by decide), V6_of m c main_v25 (by decide), V5_of m c main_v25 (by decide), V4_of m c main_v25 (by decide), at_v25 m c]
  try rfl

theorem at_v69 (c : Dev nD) : V12 m c (Proc.devRef .tc main_v69) = slotWeight (slotsA (flatM m c)) (flatWeights (weightM m c)) := by
  refine (read_slotWeight (V11 m c)).trans ?_
  rw [at_v38 m c]
  rw [V11_of m c main_v37 (by decide), at_v37 m c]
  rw [V11_of m c main_v21 (by decide), V10_of m c main_v21 (by decide), V9_of m c main_v21 (by decide), V8_of m c main_v21 (by decide), V7_of m c main_v21 (by decide), V6_of m c main_v21 (by decide), V5_of m c main_v21 (by decide), V4_of m c main_v21 (by decide), at_v21 m c]
  rw [V11_of m c main_v32 (by decide), V10_of m c main_v32 (by decide), at_v32 m c]
  rw [V11_of m c main_v22 (by decide), V10_of m c main_v22 (by decide), V9_of m c main_v22 (by decide), V8_of m c main_v22 (by decide), V7_of m c main_v22 (by decide), V6_of m c main_v22 (by decide), V5_of m c main_v22 (by decide), V4_of m c main_v22 (by decide), at_v22 m c]
  try rfl

theorem at_v80 (c : Dev nD) : V12 m c (Proc.devRef .tc main_v80) = castTokens (xOf (aX m c)) := by
  refine (read_castTokens (V11 m c)).trans ?_
  rw [V11_of m c main_v0 (by decide), V10_of m c main_v0 (by decide), V9_of m c main_v0 (by decide), V8_of m c main_v0 (by decide), V7_of m c main_v0 (by decide), V6_of m c main_v0 (by decide), V5_of m c main_v0 (by decide), V4_of m c main_v0 (by decide), V3_of m c main_v0 (by decide), V2_of m c main_v0 (by decide), at_v0 m c]
  try rfl

theorem at_v81 (c : Dev nD) : V12 m c (Proc.devRef .tc main_v81) = castGate (aG m c) := by
  refine (read_castGate (V11 m c)).trans ?_
  rw [V11_of m c main_arg3 (by decide), V10_of m c main_arg3 (by decide), V9_of m c main_arg3 (by decide), V8_of m c main_arg3 (by decide), V7_of m c main_arg3 (by decide), V6_of m c main_arg3 (by decide), V5_of m c main_arg3 (by decide), V4_of m c main_arg3 (by decide), V3_of m c main_arg3 (by decide), V2_of m c main_arg3 (by decide), V1_of m c main_arg3 (by decide)]
  try rfl

theorem at_v82 (c : Dev nD) : V12 m c (Proc.devRef .tc main_v82) = castUp (aU m c) := by
  refine (read_castUp (V11 m c)).trans ?_
  rw [V11_of m c main_arg4 (by decide), V10_of m c main_arg4 (by decide), V9_of m c main_arg4 (by decide), V8_of m c main_arg4 (by decide), V7_of m c main_arg4 (by decide), V6_of m c main_arg4 (by decide), V5_of m c main_arg4 (by decide), V4_of m c main_arg4 (by decide), V3_of m c main_arg4 (by decide), V2_of m c main_arg4 (by decide), V1_of m c main_arg4 (by decide)]
  try rfl

theorem at_v83 (c : Dev nD) : V12 m c (Proc.devRef .tc main_v83) = castDown (aD m c) := by
  refine (read_castDown (V11 m c)).trans ?_
  rw [V11_of m c main_arg5 (by decide), V10_of m c main_arg5 (by decide), V9_of m c main_arg5 (by decide), V8_of m c main_arg5 (by decide), V7_of m c main_arg5 (by decide), V6_of m c main_arg5 (by decide), V5_of m c main_arg5 (by decide), V4_of m c main_arg5 (by decide), V3_of m c main_arg5 (by decide), V2_of m c main_arg5 (by decide), V1_of m c main_arg5 (by decide)]
  try rfl

theorem at_v84 (c : Dev nD) : V13 m c (Proc.devRef .tc main_v84) = tokenRows (castTokens (xOf (aX m c))) (slotToken (slotsA (flatM m c)) tokenOf) := by
  refine (read_tokenRows (V12 m c)).trans ?_
  rw [at_v80 m c]
  rw [at_v57 m c]
  try rfl

theorem in0_v69 (c : Dev nD) : V13 m c (Proc.devRef .tc main_v69) = slotWeight (slotsA (flatM m c)) (flatWeights (weightM m c)) := by
  rw [V13_of m c main_v69 (by decide), at_v69]

theorem in0_v81 (c : Dev nD) : V13 m c (Proc.devRef .tc main_v81) = castGate (aG m c) := by
  rw [V13_of m c main_v81 (by decide), at_v81]

theorem in0_v82 (c : Dev nD) : V13 m c (Proc.devRef .tc main_v82) = castUp (aU m c) := by
  rw [V13_of m c main_v82 (by decide), at_v82]

theorem in0_v83 (c : Dev nD) : V13 m c (Proc.devRef .tc main_v83) = castDown (aD m c) := by
  rw [V13_of m c main_v83 (by decide), at_v83]

theorem in0_v49 (c : Dev nD) : V13 m c (Proc.devRef .tc main_v49) = slotsA (flatM m c) := by
  rw [V13_of m c main_v49 (by decide), at_v49]

theorem in0_v80 (c : Dev nD) : V13 m c (Proc.devRef .tc main_v80) = castTokens (xOf (aX m c)) := by
  rw [V13_of m c main_v80 (by decide), at_v80]

theorem in0_v79 (c : Dev nD) : V13 m c (Proc.devRef .tc main_v79) = tileTable (cumA (flatM m c)) := by
  rw [table_read, at_v38]

/-- The routed call's result buffer after it. -/
theorem out_v85 (c : Dev nD) : V14 m (outs m) c (Proc.devRef .tc main_v85) = (dat0 (adm m 0) (V13 m) c).arrAt 5 (cfg0 (adm m 0)).N := by
  rw [V14, Function.update_self]
  exact Pipeline.afterRegion_arr (dat0 (adm m 0) (V13 m) c) (V13 m c) (launch0 (F := F)).win.arr_inj 5

/-- The shared call's result buffer after it. -/
theorem out_v93 (c : Dev nD) : V20 m (outs m) c (Proc.devRef .tc main_v93) = (dat1 (W19 m) c).arrAt 6 cfg1.N := by
  rw [V20, Function.update_self]
  exact Pipeline.afterRegion_arr (dat1 (W19 m) c) (W19 m c) (launch1 (F := F)).win.arr_inj 6

theorem at_v86 (c : Dev nD) : V15 m (outs m) c (Proc.devRef .tc main_v86) = evenOf (slotsA (flatM m c)) := by
  refine (read_evenOf (V14 m (outs m) c)).trans ?_
  rw [V14_of m (outs m) c main_v49 (by decide), V13_of m c main_v49 (by decide), at_v49 m c]
  try rfl

theorem at_v87 (c : Dev nD) : V16 m (outs m) c (Proc.devRef .tc main_v87) = slotRows (V14 m (outs m) c (Proc.devRef .tc main_v85)) (evenOf (slotsA (flatM m c))) := by
  refine (read_slotRows (V15 m (outs m) c)).trans ?_
  rw [at_v86 m c]
  rw [V15_of m (outs m) c main_v85 (by decide)]
  try rfl

theorem at_v88 (c : Dev nD) : V17 m (outs m) c (Proc.devRef .tc main_v88) = oddOf (slotsA (flatM m c)) := by
  refine (read_oddOf (V16 m (outs m) c)).trans ?_
  rw [V16_of m (outs m) c main_v49 (by decide), V15_of m (outs m) c main_v49 (by decide), V14_of m (outs m) c main_v49 (by decide), V13_of m c main_v49 (by decide), at_v49 m c]
  try rfl

theorem at_v89 (c : Dev nD) : V18 m (outs m) c (Proc.devRef .tc main_v89) = slotRows (V14 m (outs m) c (Proc.devRef .tc main_v85)) (oddOf (slotsA (flatM m c))) := by
  refine (read_slotRows_second (V17 m (outs m) c)).trans ?_
  rw [at_v88 m c]
  rw [V17_of m (outs m) c main_v85 (by decide), V16_of m (outs m) c main_v85 (by decide), V15_of m (outs m) c main_v85 (by decide)]
  try rfl

theorem at_v90 (c : Dev nD) : V19 m (outs m) c (Proc.devRef .tc main_v90) = castSGate (aSG m c) := by
  refine (read_castSGate (V18 m (outs m) c)).trans ?_
  rw [V18_of m (outs m) c main_arg6 (by decide), V17_of m (outs m) c main_arg6 (by decide), V16_of m (outs m) c main_arg6 (by decide), V15_of m (outs m) c main_arg6 (by decide), V14_of m (outs m) c main_arg6 (by decide), V13_of m c main_arg6 (by decide), V12_of m c main_arg6 (by decide), V11_of m c main_arg6 (by decide), V10_of m c main_arg6 (by decide), V9_of m c main_arg6 (by decide), V8_of m c main_arg6 (by decide), V7_of m c main_arg6 (by decide), V6_of m c main_arg6 (by decide), V5_of m c main_arg6 (by decide), V4_of m c main_arg6 (by decide), V3_of m c main_arg6 (by decide), V2_of m c main_arg6 (by decide), V1_of m c main_arg6 (by decide)]
  try rfl

theorem at_v91 (c : Dev nD) : V19 m (outs m) c (Proc.devRef .tc main_v91) = castSUp (aSU m c) := by
  refine (read_castSUp (V18 m (outs m) c)).trans ?_
  rw [V18_of m (outs m) c main_arg7 (by decide), V17_of m (outs m) c main_arg7 (by decide), V16_of m (outs m) c main_arg7 (by decide), V15_of m (outs m) c main_arg7 (by decide), V14_of m (outs m) c main_arg7 (by decide), V13_of m c main_arg7 (by decide), V12_of m c main_arg7 (by decide), V11_of m c main_arg7 (by decide), V10_of m c main_arg7 (by decide), V9_of m c main_arg7 (by decide), V8_of m c main_arg7 (by decide), V7_of m c main_arg7 (by decide), V6_of m c main_arg7 (by decide), V5_of m c main_arg7 (by decide), V4_of m c main_arg7 (by decide), V3_of m c main_arg7 (by decide), V2_of m c main_arg7 (by decide), V1_of m c main_arg7 (by decide)]
  try rfl

theorem at_v92 (c : Dev nD) : V19 m (outs m) c (Proc.devRef .tc main_v92) = castSDown (aSD m c) := by
  refine (read_castSDown (V18 m (outs m) c)).trans ?_
  rw [V18_of m (outs m) c main_arg8 (by decide), V17_of m (outs m) c main_arg8 (by decide), V16_of m (outs m) c main_arg8 (by decide), V15_of m (outs m) c main_arg8 (by decide), V14_of m (outs m) c main_arg8 (by decide), V13_of m c main_arg8 (by decide), V12_of m c main_arg8 (by decide), V11_of m c main_arg8 (by decide), V10_of m c main_arg8 (by decide), V9_of m c main_arg8 (by decide), V8_of m c main_arg8 (by decide), V7_of m c main_arg8 (by decide), V6_of m c main_arg8 (by decide), V5_of m c main_arg8 (by decide), V4_of m c main_arg8 (by decide), V3_of m c main_arg8 (by decide), V2_of m c main_arg8 (by decide), V1_of m c main_arg8 (by decide)]
  try rfl

theorem at_v94 (c : Dev nD) : V21 m (outs m) c (Proc.devRef .tc main_v94) = finalOf (V20 m (outs m) c (Proc.devRef .tc main_v93)) := by
  refine (read_finalOf (V20 m (outs m) c)).trans ?_
  try rfl

theorem in1_v80 (c : Dev nD) : V19 m (outs m) c (Proc.devRef .tc main_v80) = castTokens (xOf (aX m c)) := by
  rw [V19_of m (outs m) c main_v80 (by decide), V18_of m (outs m) c main_v80 (by decide), V17_of m (outs m) c main_v80 (by decide), V16_of m (outs m) c main_v80 (by decide), V15_of m (outs m) c main_v80 (by decide), V14_of m (outs m) c main_v80 (by decide), V13_of m c main_v80 (by decide), at_v80]

theorem in1_v87 (c : Dev nD) : V19 m (outs m) c (Proc.devRef .tc main_v87) = slotRows (V14 m (outs m) c (Proc.devRef .tc main_v85)) (evenOf (slotsA (flatM m c))) := by
  rw [V19_of m (outs m) c main_v87 (by decide), V18_of m (outs m) c main_v87 (by decide), V17_of m (outs m) c main_v87 (by decide), at_v87]

theorem in1_v89 (c : Dev nD) : V19 m (outs m) c (Proc.devRef .tc main_v89) = slotRows (V14 m (outs m) c (Proc.devRef .tc main_v85)) (oddOf (slotsA (flatM m c))) := by
  rw [V19_of m (outs m) c main_v89 (by decide), at_v89]

end Cert.KernelIdeal.Pf
-- ==== Proof.Value.Words.lean ====
/-
  Reading along rows: the gather that takes one column entry per row, and the tests that a word is inside a range.
-/
module

public import proofs.«01_k».proof.Proof.Value.Host
public import Idealize.ShloMosaic.Lib.Pointwise
public import Idealize.ShloMosaic.Lib.ReduceAll
public import Idealize.ShloMosaic.Lib.Routing.Ops
public import Idealize.ShloMosaic.Lib.Routing.OpsSearch
public import Idealize.ShloMosaic.Lib.Routing.OpsPair

@[expose] public section

noncomputable section

namespace Cert.KernelIdeal.Pf

open Cert.KernelIdeal Cert.KernelIdeal.Gen
open Idealize.ShloMosaic Idealize.ShloMosaic.TcCoe Idealize.ShloMosaic.Tactic

/-- The dimension numbers of a take along the second axis, the first a batching axis. -/
abbrev takeColsDims (N C K : Nat)
    (wf : GatherDims.WF ⟨2, ![N, C]⟩ ⟨3, ![N, K, 1]⟩ ⟨2, ![N, K]⟩ [] [1] [0] [1] [0] 2 ![1, 1]) :
    GatherDims ⟨2, ![N, C]⟩ ⟨3, ![N, K, 1]⟩ ⟨2, ![N, K]⟩ where
  offsetDims := []
  collapsedSliceDims := [1]
  operandBatchingDims := [0]
  startIndicesBatchingDims := [0]
  startIndexMap := [1]
  indexVectorDim := 2
  sliceSizes := ![1, 1]
  wf := wf

/-- That take at a row and a place: the row's entry at the place's index. -/
theorem gather_take_cols {α : Type} {N C K : Nat} (hC : 0 < C)
    (wf : GatherDims.WF ⟨2, ![N, C]⟩ ⟨3, ![N, K, 1]⟩ ⟨2, ![N, K]⟩ [] [1] [0] [1] [0] 2 ![1, 1])
    (x : (⟨2, ![N, C]⟩ : Shape).Idx → α) (idx : IVec ⟨3, ![N, K, 1]⟩ 32) (n : Fin N) (k : Fin K) :
    Host.gather (takeColsDims N C K wf) x idx (ix2 n k)
      = x (ix2 n ⟨min (idx (ix3 n k (0 : Fin 1))).toInt.toNat (C - 1), by omega⟩) := by
  unfold Host.gather
  congr 1
  funext a
  refine Fin.ext ?_
  show (takeColsDims N C K wf).start (ix2 n k) idx a + (takeColsDims N C K wf).batchCoord (ix2 n k) a
      + (takeColsDims N C K wf).offCoord (ix2 n k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeColsDims N C K wf).startIndexMap from List.mem_singleton.mpr rfl)]
    have hsi : (takeColsDims N C K wf).siIdx (ix2 n k) ⟨List.idxOf (1 : Fin 2) (takeColsDims N C K wf).startIndexMap,
        List.idxOf_lt_length_iff.2 (List.mem_singleton.mpr rfl)⟩ = ix3 n k (0 : Fin 1) := by
      funext b; refine Fin.ext ?_
      match b with
      | ⟨0, _⟩ => rfl
      | ⟨1, _⟩ => rfl
      | ⟨2, _⟩ => rfl
    rw [hsi]
    rfl

/-- A word of a natural in a range passes both tests. -/
theorem in_range {v b : BitVec 32} {B : Nat} (hb : b = BitVec.ofNat 32 B) (hB : B < 2 ^ 31) (hv : v.toNat ≤ B) :
    IntOp.andi (IntOp.cmpi .sge v 0#32) (IntOp.cmpi .sle v b) = 1#1 := by
  have h1 : v.toInt = v.toNat := BitVec.toInt_eq_toNat_of_lt (by omega)
  have h2 : b.toInt = B := by rw [hb]; exact StableHlo.Predicate.toInt_ofNat_small _ hB
  have e1 : IntOp.cmpi .sge v 0#32 = 1#1 := IntOp.cmpi_sge.2 (by rw [h1]; simp)
  have e2 : IntOp.cmpi .sle v b = 1#1 := IntOp.cmpi_sle.2 (by rw [h1, h2]; omega)
  rw [e1, e2]; rfl

/-- A word below 2³¹ is nonnegative, so a wrap of negative indices leaves it. -/
theorem wrapped {v c : BitVec 32} (hv : v.toNat < 2 ^ 31) : Scalar.select (IntOp.cmpi .slt v 0#32) c v = v :=
  Routing.wrap_of_lt v c hv

end Cert.KernelIdeal.Pf
-- ==== Proof.Value.Ranks.lean ====
/-
  Counts, ranks and tiles as natural numbers: what the host's integer operations compute from choices below eight.
-/
module

public import proofs.«01_k».proof.Proof.Value.Chain
public import proofs.«01_k».proof.Proof.Value.Words
public import Idealize.ShloMosaic.Lib.Routing.Count
public import Idealize.ShloMosaic.Lib.Routing.Counts
public import Idealize.ShloMosaic.Lib.Routing.OpsOne
public import Idealize.ShloMosaic.Lib.Routing.Words

@[expose] public section

noncomputable section

namespace Cert.KernelIdeal.Pf

open Cert.KernelIdeal Cert.KernelIdeal.Gen
open Idealize.ShloMosaic Idealize.ShloMosaic.TcCoe Idealize.ShloMosaic.Tactic

/-- The expert of a choice, as a natural number. -/
def chN (a : IVec S4096 32) (j : Nat) : Nat := if h : j < 4096 then (a (ix1 ⟨j, h⟩)).toNat else 0
/-- How many of the first `n` choices are an expert. -/
def cntN (a : IVec S4096 32) (e n : Nat) : Nat := Nat.count (fun j => chN a j = e) n
/-- An expert's tiles. -/
def tlN (a : IVec S4096 32) (e : Nat) : Nat := (cntN a e 4096 + 512 - 1) / 512
/-- The tiles of the experts below one. -/
def cumN (a : IVec S4096 32) (e : Nat) : Nat := ((List.range e).map (tlN a)).sum
/-- The slot of a choice. -/
def slN (a : IVec S4096 32) (j : Nat) : Nat := cumN a (chN a j) * 512 + cntN a (chN a j) j

variable (a : IVec S4096 32)

theorem chN_fin (j : Fin 4096) : chN a j = (a (ix1 j)).toNat := dif_pos j.isLt

theorem a_word (j : Fin 4096) : a (ix1 j) = BitVec.ofNat 32 (chN a j) := by
  rw [chN_fin, BitVec.ofNat_toNat, BitVec.setWidth_eq]

theorem chN_lt (ha : ∀ i, (a i).toNat < 8) (j : Nat) : chN a j < 8 := by
  unfold chN
  split
  · exact ha _
  · norm_num

/-- The comparison behind the one-hot table. -/
def hotMask (a : IVec S4096 32) : IVec S4096x8 1 :=
  cmpi .eq (broadcastInDim S4096x8 ![0, 1] bcast_S4096x1_S4096x8_0_1 (broadcastInDim S4096x1 ![0] bcast_S4096_S4096x1_0 a))
    (broadcastInDim S4096x8 ![0, 1] bcast_S1x8_S4096x8_0_1 (iotaInDim S1x8 32 1))

theorem hotMask_at (j : Fin 4096) (e : Fin 8) : hotMask a (ix2 j e) = BitVec.ofBool (decide (chN a j = e)) := by
  have h : hotMask a (ix2 j e) = IntOp.cmpi .eq (a (ix1 j)) (BitVec.ofNat 32 e.val) := by
    unfold hotMask
    pointwise []
  have hlt : chN a j < 2 ^ 32 := by rw [chN_fin]; exact (a (ix1 j)).isLt
  have he := e.isLt
  rw [h, a_word a j]
  show BitVec.ofBool (BitVec.ofNat 32 (chN a j) == BitVec.ofNat 32 e.val) = _
  congr 1
  rw [Bool.eq_iff_iff, beq_iff_eq, decide_eq_true_iff]
  constructor
  · intro hh
    have := congrArg BitVec.toNat hh
    rw [BitVec.toNat_ofNat, BitVec.toNat_ofNat, Nat.mod_eq_of_lt hlt, Nat.mod_eq_of_lt (by omega)] at this
    exact this
  · intro hh; rw [hh]

theorem oneHot_at (j : Fin 4096) (e : Fin 8) : oneHot a (ix2 j e) = BitVec.ofNat 32 (if chN a j = e then 1 else 0) := by
  show (hotMask a (ix2 j e)).setWidth 32 = _
  rw [hotMask_at, Routing.setWidth_ofBool]

theorem cntN_le (e n : Nat) : cntN a e n ≤ n := Nat.count_le _

theorem countsA_at (e : Fin 8) : countsA a (ix1 e) = BitVec.ofNat 32 (cntN a e 4096) := by
  apply BitVec.eq_of_toNat_eq
  show (Host.reduce IntOp.addi (extui 32 (hotMask a) natLt_1_32) (constantI S_ 32 0#32) reducesTo_S4096x8_S8_d0 h_S_ (ix1 e)).toNat = _
  have h := StableHlo.Predicate.toNat_reduce_count_rows (n := 4096) (m := 8) (by norm_num) (hotMask a) natLt_1_32 reducesTo_S4096x8_S8_d0 h_S_ (ix1 e)
  have hc := cntN_le a e 4096
  rw [BitVec.toNat_ofNat, Nat.mod_eq_of_lt (by omega)]
  refine h.trans ?_
  unfold cntN
  rw [← Routing.card_filter_fin]
  refine congrArg Finset.card (Finset.filter_congr fun q _ => ?_)
  show hotMask a (StableHlo.Predicate.ij q e) = 1#1 ↔ _
  rw [Routing.ij_eq_ix2]
  refine Eq.congr_left (hotMask_at a q e) |>.trans ?_
  by_cases hq : chN a q = e <;> simp [hq]

theorem runningOf_at (j : Fin 4096) (e : Fin 8) : runningOf (oneHot a) (ix2 j e) = BitVec.ofNat 32 (cntN a e (j + 1)) := by
  have h := Routing.cumsum_rows (R := 4096) (Rm1 := 4095) (C := 8) rfl (oneHot a) (fun i c => if chN a i = c then 1 else 0)
    (fun i c => oneHot_at a i c) (broadcastInDim S_ ![] bcast_S_S_ (constantI S_ 32 0#32)) rfl
    reduceWindows_S4096x8_S4096x8_w4096s1p4095_0_w1s1p0_0 h_S_ j e
  refine h.trans ?_
  rw [Routing.sum_map_ite]
  rfl

theorem earlierOf_at (j : Fin 4096) (e : Fin 8) : earlierOf (runningOf (oneHot a)) (oneHot a) (ix2 j e) = BitVec.ofNat 32 (cntN a e j) := by
  show runningOf (oneHot a) (ix2 j e) - oneHot a (ix2 j e) = _
  rw [runningOf_at, oneHot_at]
  have h : cntN a e (j + 1) = cntN a e j + if chN a j = e then 1 else 0 := Nat.count_succ _ _
  rw [h]
  apply BitVec.eq_of_toNat_eq
  have hc := cntN_le a e j
  have hj := j.isLt
  rw [BitVec.toNat_sub]
  simp only [BitVec.toNat_ofNat]
  split <;> omega

theorem roundUp_at (e : Fin 8) : roundUp (countsA a) (ix1 e) = BitVec.ofNat 32 (cntN a e 4096 + 512 - 1) := by
  have h : roundUp (countsA a) (ix1 e) = countsA a (ix1 e) + 512#32 - 1#32 := by
    unfold roundUp
    pointwise []
    rfl
  rw [h, countsA_at]
  have hc := cntN_le a e 4096
  apply BitVec.eq_of_toNat_eq
  rw [BitVec.toNat_sub, BitVec.toNat_add]
  simp only [BitVec.toNat_ofNat]
  omega

theorem tilesA_at (e : Fin 8) : tilesA a (ix1 e) = BitVec.ofNat 32 (tlN a e) := by
  have hc := cntN_le a e 4096
  exact Routing.pyDiv_ap (s := S8) bcast_S_S8 (roundUp (countsA a)) tileSize (ix1 e) (roundUp_at a e) rfl (by omega) (by norm_num) (by norm_num)

theorem cumA_at (e : Fin 8) : cumA a (ix1 e) = BitVec.ofNat 32 (cumN a (e + 1)) := by
  have h := Routing.cumsum1 (N := 8) (Nm1 := 7) rfl (tilesA a) (tlN a) (tilesA_at a)
    (broadcastInDim S_ ![] bcast_S_S_ (constantI S_ 32 0#32)) rfl reduceWindows_S8_S8_w8s1p7_0 h_S_ e
  exact h

/-- All experts' counts add up to the choices, so the tiles are at most sixteen. -/
theorem cumN_eight (ha : ∀ i, (a i).toNat < 8) : cumN a 8 ≤ 16 := by
  have h := Routing.tiles_prefix_le 8 512 (fun e => cntN a e 4096) (x := 8) le_rfl
  have hs : Routing.offsC 8 (fun e => cntN a e 4096) 8 = ((List.range (7 + 1)).map fun y => Nat.count (fun i => chN a i = y) 4096).sum := by
    simp [Routing.offsC, cntN, List.range_succ]; omega
  rw [hs, Routing.sum_count_eq] at h
  have h2 : Nat.count (fun i => chN a i ≤ 7) 4096 ≤ 4096 := Nat.count_le _
  have h3 : 512 * cumN a 8 ≤ 4096 + 512 * 8 := le_trans h (by omega)
  omega

theorem cumN_mono {x y : Nat} (h : x ≤ y) : cumN a x ≤ cumN a y := by
  induction h with
  | refl => exact le_rfl
  | step _ ih => refine ih.trans ?_; unfold cumN; rw [List.range_succ, List.map_append, List.sum_append]; omega

theorem cumN_succ (x : Nat) : cumN a (x + 1) = cumN a x + tlN a x := by
  unfold cumN; rw [List.range_succ, List.map_append, List.sum_append]; simp

theorem rank_lt {j : Nat} (hj : j < 4096) : cntN a (chN a j) j < cntN a (chN a j) 4096 := by
  unfold cntN
  exact Nat.count_strict_mono (p := fun i => chN a i = chN a j) rfl hj

theorem rank_lt_tiles {j : Nat} (hj : j < 4096) : cntN a (chN a j) j < tlN a (chN a j) * 512 := by
  have h := rank_lt a hj
  unfold tlN
  omega

theorem slN_lt (ha : ∀ i, (a i).toNat < 8) {j : Nat} (hj : j < 4096) : slN a j < 8192 := by
  have h1 := rank_lt_tiles a hj
  have h2 := cumN_succ a (chN a j)
  have h3 := cumN_mono a (show chN a j + 1 ≤ 8 from chN_lt a ha j)
  have h4 := cumN_eight a ha
  unfold slN
  omega

/-- A slot's tile lies among its expert's. -/
theorem slN_tile {j : Nat} (hj : j < 4096) : cumN a (chN a j) ≤ slN a j / 512 ∧ slN a j / 512 < cumN a (chN a j + 1) := by
  have h1 := rank_lt_tiles a hj
  have h2 := cumN_succ a (chN a j)
  unfold slN
  omega

/-- Two choices have two slots. -/
theorem slN_inj {i j : Nat} (hi : i < 4096) (hj : j < 4096) (h : slN a i = slN a j) : i = j := by
  have ei := slN_tile a hi
  have ej := slN_tile a hj
  have hexp : chN a i = chN a j := by
    rcases Nat.lt_trichotomy (chN a i) (chN a j) with hlt | he | hgt
    · have := cumN_mono a (show chN a i + 1 ≤ chN a j from hlt); omega
    · exact he
    · have := cumN_mono a (show chN a j + 1 ≤ chN a i from hgt); omega
  have hr : cntN a (chN a j) i = cntN a (chN a j) j := by
    have h' := h
    unfold slN at h'
    rw [hexp] at h'
    omega
  exact Nat.count_injective (p := fun k => chN a k = chN a j) hexp rfl hr

end Cert.KernelIdeal.Pf
-- ==== Proof.Value.Slots.lean ====
/-
  Slots: a choice's rank and slot, and what the scatters leave in a choice's slot.
-/
module

public import proofs.«01_k».proof.Proof.Value.Ranks

@[expose] public section

noncomputable section

namespace Cert.KernelIdeal.Pf

open Cert.KernelIdeal Cert.KernelIdeal.Gen
open Idealize.ShloMosaic Idealize.ShloMosaic.TcCoe Idealize.ShloMosaic.Tactic

variable {F : FTy → Type} [FloatOps F]
variable (a : IVec S4096 32)

/-- An and over an axis is one where every entry it folds is one. -/
theorem reduce_andi_at {s t u : Shape} {axes : List (Fin s.rank)} (x : s.Idx → BitVec 1) (init : u.Idx → BitVec 1) (h : s.ReducesTo axes t) (hu : 0 < u.numel)
    (j : t.Idx) (hi : init (Shape.Idx.first hu) = 1#1) (hx : ∀ i, h.drop i = j → x i = 1#1) : Host.reduce IntOp.andi x init h hu j = 1#1 := by
  rw [Host.reduce_eq_foldl]
  exact IntOp.foldl_andi_one x _ _ hi fun n hn => hx n (of_decide_eq_true (List.mem_filter.1 hn).2)

/-- The rank of a choice is its expert's count before it. -/
theorem rankPick_at (ha : ∀ i, (a i).toNat < 8) (ea : IVec S4096x8 32) (j : Fin 4096) :
    rankPick ea (columnOf a) (ix2 j (0 : Fin 1)) = ea (ix2 j (⟨chN a j, chN_lt a ha j⟩ : Fin 8)) := by
  have hcol : ∀ i : Fin 4096, columnOf a (ix2 i (0 : Fin 1)) = a (ix1 i) := fun i => by unfold columnOf; pointwise []
  have h8 : ∀ i : Fin 4096, (a (ix1 i)).toNat < 2 ^ 31 := fun i => lt_trans (ha _) (by norm_num)
  have hidx : ∀ i : Fin 4096, (select (cmpi .slt (columnOf a) (broadcastInDim S4096x1 ![] bcast_S_S4096x1 (constantI S_ 32 0#32)))
      (addi (columnOf a) (broadcastInDim S4096x1 ![] bcast_S_S4096x1 (constantI S_ 32 8#32))) (columnOf a)) (ix2 i (0 : Fin 1)) = a (ix1 i) := fun i => by
    show Scalar.select (IntOp.cmpi .slt (columnOf a (ix2 i (0 : Fin 1))) 0#32) _ (columnOf a (ix2 i (0 : Fin 1))) = _
    rw [hcol]; exact wrapped (h8 i)
  have hidx3 : ∀ i : Fin 4096, shapeCast S4096x1x1 (select (cmpi .slt (columnOf a) (broadcastInDim S4096x1 ![] bcast_S_S4096x1 (constantI S_ 32 0#32)))
      (addi (columnOf a) (broadcastInDim S4096x1 ![] bcast_S_S4096x1 (constantI S_ 32 8#32))) (columnOf a)) shapeCasts_S4096x1_S4096x1x1 (ix3 i (0 : Fin 1) (0 : Fin 1)) = a (ix1 i) := fun i => by
    refine (shapeCast_apply _ shapeCasts_S4096x1_S4096x1x1 _ (ix2 i (0 : Fin 1)) ?_).trans (hidx i)
    rw [Shape.rowMajor_val_three, Shape.rowMajor_val_two]
    show i.val * 1 + 0 = (i.val * 1 + 0) * 1 + 0
    omega
  unfold rankPick
  show Scalar.select (Host.reduce IntOp.andi _ _ _ _ (ix2 j (0 : Fin 1))) _ _ = _
  rw [reduce_andi_at _ _ _ _ _ rfl (fun i _ => by
    obtain ⟨p, rfl⟩ : ∃ p : Fin 4096, i = ix3 p (0 : Fin 1) (0 : Fin 1) := ⟨i 0, by
      funext b; match b with
      | ⟨0, _⟩ => rfl
      | ⟨1, _⟩ => exact Subsingleton.elim (α := Fin 1) _ _
      | ⟨2, _⟩ => exact Subsingleton.elim (α := Fin 1) _ _⟩
    show IntOp.andi (IntOp.cmpi .sge (shapeCast S4096x1x1 _ shapeCasts_S4096x1_S4096x1x1 (ix3 p (0 : Fin 1) (0 : Fin 1))) 0#32)
      (IntOp.cmpi .sle (shapeCast S4096x1x1 _ shapeCasts_S4096x1_S4096x1x1 (ix3 p (0 : Fin 1) (0 : Fin 1))) 7#32) = 1#1
    rw [hidx3]
    exact in_range (B := 7) rfl (by norm_num) (Nat.le_of_lt_succ (ha _)))]
  refine (gather_take_cols (N := 4096) (C := 8) (K := 1) (by norm_num) gather_S4096x8_S4096x1x1_S4096x1_n_1_0_0_1_2_11.wf ea _ j (0 : Fin 1)).trans ?_
  refine congrArg (fun q : Fin 8 => ea (ix2 j q)) (Fin.ext ?_)
  have hw := hidx3 j
  show min (BitVec.toInt (shapeCast S4096x1x1 _ shapeCasts_S4096x1_S4096x1x1 (ix3 j (0 : Fin 1) (0 : Fin 1)))).toNat (8 - 1) = chN a j
  rw [hw, BitVec.toInt_eq_toNat_of_lt (by have := h8 j; omega), chN_fin]
  have := ha (ix1 j)
  simp only [Int.toNat_natCast]
  omega

theorem rankA_at (ha : ∀ i, (a i).toNat < 8) (j : Fin 4096) : rankA a (ix1 j) = BitVec.ofNat 32 (cntN a (chN a j) j) := by
  unfold rankA flatRank
  refine (shapeCast_apply _ shapeCasts_S4096x1_S4096 _ (ix2 j (0 : Fin 1)) ?_).trans ?_
  · rw [Shape.rowMajor_val_one, Shape.rowMajor_val_two]; show j.val * 1 + 0 = j.val; omega
  · rw [rankPick_at a ha, earlierOf_at]

/-- A choice's slot, as a word. -/
theorem slotsA_at (ha : ∀ i, (a i).toNat < 8) (j : Fin 4096) : slotsA a (ix1 j) = BitVec.ofNat 32 (slN a j) := by
  have h8 : (a (ix1 j)).toNat < 2 ^ 31 := lt_trans (ha _) (by norm_num)
  have hlt := chN_lt a ha j
  unfold slotsA slotOf
  show Host.gather _ _ _ (ix1 j) + rankA a (ix1 j) = _
  rw [rankA_at a ha]
  refine (congrArg (· + BitVec.ofNat 32 (cntN a (chN a j) j)) (Routing.gather_take1 (N := 8) (n := 4096) gather_S8_S4096x1_S4096_n_0_n_n_0_1_1 rfl rfl rfl rfl _ _ j ⟨chN a j, hlt⟩ ?_ (by norm_num))).trans ?_
  rotate_left
  · show (cumA a (ix1 ⟨chN a j, hlt⟩) - tilesA a (ix1 ⟨chN a j, hlt⟩)) * 512#32 + _ = _
    rw [cumA_at, tilesA_at]
    have h1 := cumN_succ a (chN a j)
    have h2 := slN_lt a ha j.isLt
    show (BitVec.ofNat 32 (cumN a (chN a j + 1)) - BitVec.ofNat 32 (tlN a (chN a j))) * 512#32 + _ = _
    have e1 : BitVec.ofNat 32 (cumN a (chN a j + 1)) - BitVec.ofNat 32 (tlN a (chN a j)) = BitVec.ofNat 32 (cumN a (chN a j)) := by
      rw [h1, BitVec.ofNat_add, BitVec.add_sub_cancel]
    rw [e1]
    show BitVec.ofNat 32 (cumN a (chN a j)) * BitVec.ofNat 32 512 + _ = _
    rw [← BitVec.ofNat_mul, ← BitVec.ofNat_add]
    rfl
  · have hcol : (broadcastInDim S4096x1 ![0] bcast_S4096_S4096x1_0 (select (cmpi .slt a (broadcastInDim S4096 ![] bcast_S_S4096 (constantI S_ 32 0#32)))
        (addi a (broadcastInDim S4096 ![] bcast_S_S4096 (constantI S_ 32 8#32))) a)) (ix2 j (0 : Fin 1)) = a (ix1 j) := by
      have : (broadcastInDim S4096x1 ![0] bcast_S4096_S4096x1_0 (select (cmpi .slt a (broadcastInDim S4096 ![] bcast_S_S4096 (constantI S_ 32 0#32)))
        (addi a (broadcastInDim S4096 ![] bcast_S_S4096 (constantI S_ 32 8#32))) a)) (ix2 j (0 : Fin 1))
          = Scalar.select (IntOp.cmpi .slt (a (ix1 j)) 0#32) (IntOp.addi (a (ix1 j)) 8#32) (a (ix1 j)) := by pointwise []
      rw [this]; exact wrapped h8
    exact hcol.trans (a_word a j)

/-- Where an update of the token scatter lands. -/
theorem tok_lands (idx : IVec S4096x1 32) (i : Fin 4096) (x : Fin 8192) :
    scatter_S8192_S4096x1_S4096_n_0_0_1.resultIdx? (ix1 i) idx = some (ix1 x) ↔ (idx (ix2 i (0 : Fin 1))).toInt = x.val := by
  refine (Routing.resultIdx?_ix1 scatter_S8192_S4096x1_S4096_n_0_0_1 _ _ _).trans ?_
  have h1 : scatter_S8192_S4096x1_S4096_n_0_0_1.start (ix1 i) idx 0 = (idx (ix2 i (0 : Fin 1))).toInt := by
    unfold ScatterDims.start
    rw [dif_pos (by decide)]
    refine congrArg (fun q => (idx q).toInt) (funext fun b => Fin.ext ?_)
    match b with
    | ⟨0, _⟩ => rfl
    | ⟨1, _⟩ => rfl
  have h2 : scatter_S8192_S4096x1_S4096_n_0_0_1.window (ix1 i) 0 = 0 := by
    unfold ScatterDims.window
    rw [dif_neg (by decide)]
  rw [h1, h2]
  simp

/-- Where an update of the weight scatter lands. -/
theorem weight_lands (idx : IVec S4096x2 32) (i : Fin 4096) (x : Fin 8192) (y : Fin 1) :
    scatter_S8192x1_S4096x2_S4096_n_01_01_1.resultIdx? (ix1 i) idx = some (ix2 x y)
      ↔ (idx (ix2 i (0 : Fin 2))).toInt = x.val ∧ (idx (ix2 i (1 : Fin 2))).toInt = y.val := by
  refine (Routing.resultIdx?_ix2 scatter_S8192x1_S4096x2_S4096_n_01_01_1 _ _ _ _).trans ?_
  have h1 : ∀ q : Fin 2, scatter_S8192x1_S4096x2_S4096_n_01_01_1.start (ix1 i) idx q = (idx (ix2 i q)).toInt := fun q => by
    have hq : q ∈ scatter_S8192x1_S4096x2_S4096_n_01_01_1.scatterDimsToOperandDims := by
      show q ∈ [(0 : Fin 2), 1]
      fin_cases q <;> simp
    unfold ScatterDims.start
    rw [dif_pos hq]
    refine congrArg (fun q => (idx q).toInt) (funext fun b => Fin.ext ?_)
    match b with
    | ⟨0, _⟩ => rfl
    | ⟨1, _⟩ => match q with
      | ⟨0, _⟩ => rfl
      | ⟨1, _⟩ => rfl
  have h2 : ∀ q : Fin 2, scatter_S8192x1_S4096x2_S4096_n_01_01_1.window (ix1 i) q = 0 := fun q => by
    have hq : ∀ q : Fin 2, q ∉ scatter_S8192x1_S4096x2_S4096_n_01_01_1.sKept := by decide
    unfold ScatterDims.window
    rw [dif_neg (hq q)]
  rw [h1, h1, h2, h2]
  simp

/-- The scatter's index column holds the slots. -/
theorem slot_column (sl : IVec S4096 32) (j : Fin 4096) (h : (sl (ix1 j)).toNat < 2 ^ 31) :
    broadcastInDim S4096x1 ![0] bcast_S4096_S4096x1_0 (select (cmpi .slt sl (broadcastInDim S4096 ![] bcast_S_S4096 (constantI S_ 32 0#32)))
      (addi sl (broadcastInDim S4096 ![] bcast_S_S4096 (constantI S_ 32 8192#32))) sl) (ix2 j (0 : Fin 1)) = sl (ix1 j) := by
  have : broadcastInDim S4096x1 ![0] bcast_S4096_S4096x1_0 (select (cmpi .slt sl (broadcastInDim S4096 ![] bcast_S_S4096 (constantI S_ 32 0#32)))
      (addi sl (broadcastInDim S4096 ![] bcast_S_S4096 (constantI S_ 32 8192#32))) sl) (ix2 j (0 : Fin 1))
        = Scalar.select (IntOp.cmpi .slt (sl (ix1 j)) 0#32) (IntOp.addi (sl (ix1 j)) 8192#32) (sl (ix1 j)) := by pointwise []
  rw [this]; exact wrapped h

theorem slot_toNat (ha : ∀ i, (a i).toNat < 8) (j : Fin 4096) : (slotsA a (ix1 j)).toNat = slN a j := by
  have h := slN_lt a ha j.isLt
  rw [slotsA_at a ha, BitVec.toNat_ofNat]; omega

theorem slot_toInt (ha : ∀ i, (a i).toNat < 8) (j : Fin 4096) : (slotsA a (ix1 j)).toInt = slN a j := by
  have h := slN_lt a ha j.isLt
  rw [slotsA_at a ha, StableHlo.Predicate.toInt_ofNat_small _ (by omega)]

/-- A choice's slot holds the choice's token. -/
theorem slotToken_at (ha : ∀ i, (a i).toNat < 8) (tk : IVec S4096 32) (j : Fin 4096) :
    slotToken (slotsA a) tk (ix1 (⟨slN a j, slN_lt a ha j.isLt⟩ : Fin 8192)) = tk (ix1 j) := by
  have hc : ∀ i : Fin 4096, _ := fun i => slot_column (slotsA a) i (by rw [slot_toNat a ha]; have := slN_lt a ha i.isLt; omega)
  unfold slotToken
  refine Routing.scatter_set_hit scatter_S8192_S4096x1_S4096_n_0_0_1 _ _ _ _ _ (fun k hk => ?_) (ix1 j) ?_
  · obtain ⟨i, rfl⟩ : ∃ i : Fin 4096, k = ix1 i := ⟨k 0, by funext b; fin_cases b; rfl⟩
    have h := (tok_lands _ i _).1 hk
    rw [hc, slot_toInt a ha] at h
    rw [slN_inj a i.isLt j.isLt (by exact_mod_cast h) |> Fin.ext]
  · refine (tok_lands _ j _).2 ?_
    rw [hc, slot_toInt a ha]

/-- A choice's slot holds the choice's weight. -/
theorem slotWeight_at (ha : ∀ i, (a i).toNat < 8) (w : FVec F S4096 .f32) (j : Fin 4096) :
    slotWeight (slotsA a) w (ix2 (⟨slN a j, slN_lt a ha j.isLt⟩ : Fin 8192) (0 : Fin 1)) = w (ix1 j) := by
  have hc : ∀ i : Fin 4096, _ := fun i => slot_column (slotsA a) i (by rw [slot_toNat a ha]; have := slN_lt a ha i.isLt; omega)
  have hA : ∀ (x y : IVec S4096x1 32) (i : Fin 4096), concatenate S4096x2 1 [⟨S4096x1, x⟩, ⟨S4096x1, y⟩] concatenates_S4096x1_S4096x1_S4096x2_d1 (ix2 i (0 : Fin 2)) = x (ix2 i (0 : Fin 1)) := fun x y i => by
    pointwise []
  have hB : ∀ (x y : IVec S4096x1 32) (i : Fin 4096), concatenate S4096x2 1 [⟨S4096x1, x⟩, ⟨S4096x1, y⟩] concatenates_S4096x1_S4096x1_S4096x2_d1 (ix2 i (1 : Fin 2)) = y (ix2 i (0 : Fin 1)) := fun x y i => by
    pointwise []
  unfold slotWeight
  refine Routing.scatter_set_hit scatter_S8192x1_S4096x2_S4096_n_01_01_1 _ _ _ _ _ (fun k hk => ?_) (ix1 j) ?_
  · obtain ⟨i, rfl⟩ : ∃ i : Fin 4096, k = ix1 i := ⟨k 0, by funext b; fin_cases b; rfl⟩
    have h := ((weight_lands _ i _ _).1 hk).1
    dsimp only at h
    rw [hA, hc, slot_toInt a ha] at h
    rw [slN_inj a i.isLt j.isLt (by exact_mod_cast h) |> Fin.ext]
  · refine (weight_lands _ j _ _).2 ⟨?_, ?_⟩
    · dsimp only
      rw [hA, hc, slot_toInt a ha]
    · dsimp only
      rw [hB]; rfl

/-- The table's entry at a choice's tile is the choice's expert. -/
theorem tileTable_at (ha : ∀ i, (a i).toNat < 8) (j : Fin 4096) (t : Fin 16) (ht : t.val = slN a j / 512) :
    (tileTable (cumA a) (ix1 t)).toNat = chN a j := by
  have hch := chN_lt a ha j
  have htile := slN_tile a j.isLt
  have h := Routing.reduce_count (n := 16) (m := 8) (by norm_num)
    (cmpi .sle (broadcastInDim S16x8 ![0, 1] bcast_S1x8_S16x8_0_1 (broadcastInDim S1x8 ![1] bcast_S8_S1x8_1 (cumA a)))
        (broadcastInDim S16x8 ![0, 1] bcast_S16x1_S16x8_0_1 (broadcastInDim S16x1 ![0] bcast_S16_S16x1_0 (iotaInDim S16 32 0)))) natLt_1_32
    reducesTo_S16x8_S16_d1 h_S_ t (fun q => q < chN a j) (fun q => by
      have e : (cmpi .sle (broadcastInDim S16x8 ![0, 1] bcast_S1x8_S16x8_0_1 (broadcastInDim S1x8 ![1] bcast_S8_S1x8_1 (cumA a)))
        (broadcastInDim S16x8 ![0, 1] bcast_S16x1_S16x8_0_1 (broadcastInDim S16x1 ![0] bcast_S16_S16x1_0 (iotaInDim S16 32 0)))) (ix2 t q)
          = IntOp.cmpi .sle (cumA a (ix1 q)) (BitVec.ofNat 32 t.val) := by pointwise []
      have hq := q.isLt
      have ht2 := t.isLt
      have hb := cumN_mono a (show q.val + 1 ≤ 8 by omega)
      have h16 := cumN_eight a ha
      refine (Eq.congr_left e).trans ?_
      rw [cumA_at, IntOp.cmpi_sle, StableHlo.Predicate.toInt_ofNat_small _ (by omega), StableHlo.Predicate.toInt_ofNat_small _ (by omega)]
      constructor
      · intro hle
        by_contra hcon
        have := cumN_mono a (show chN a j + 1 ≤ q.val + 1 by omega)
        omega
      · intro hlt
        have := cumN_mono a (show q.val + 1 ≤ chN a j by omega)
        omega)
  have hcount : Nat.count (fun q => q < chN a j) 8 = chN a j := by
    revert hch
    generalize chN a j = n
    intro hn
    interval_cases n <;> decide
  unfold tileTable
  have h' : Host.reduce IntOp.addi (extui 32 (cmpi .sle (broadcastInDim S16x8 ![0, 1] bcast_S1x8_S16x8_0_1 (broadcastInDim S1x8 ![1] bcast_S8_S1x8_1 (cumA a)))
        (broadcastInDim S16x8 ![0, 1] bcast_S16x1_S16x8_0_1 (broadcastInDim S16x1 ![0] bcast_S16_S16x1_0 (iotaInDim S16 32 0)))) natLt_1_32)
      (constantI S_ 32 0#32) reducesTo_S16x8_S16_d1 h_S_ (ix1 t) = BitVec.ofNat 32 (chN a j) := h.trans (by rw [hcount])
  show (IntOp.minsi (Host.reduce IntOp.addi _ _ reducesTo_S16x8_S16_d1 h_S_ (ix1 t)) 7#32).toNat = _
  rw [h', cap_word _ (by omega), BitVec.toNat_ofNat]
  omega

end Cert.KernelIdeal.Pf
-- ==== Proof.Value.Takes.lean ====
/-
  The row takes of the host, and the reshapes between tokens and choices, at an index.
-/
module

public import proofs.«01_k».proof.Proof.Value.Words

@[expose] public section

noncomputable section

namespace Cert.KernelIdeal.Pf

open Cert.KernelIdeal Cert.KernelIdeal.Gen
open Idealize.ShloMosaic Idealize.ShloMosaic.TcCoe Idealize.ShloMosaic.Tactic

variable {F : FTy → Type} [FloatOps F]

/-- A token's first choice's place in the row, -/
def first (t : Fin 2048) : Fin 4096 := ⟨2 * t.val, by omega⟩
/-- and its second's. -/
def second (t : Fin 2048) : Fin 4096 := ⟨2 * t.val + 1, by omega⟩

theorem evenOf_at (sl : IVec S4096 32) (t : Fin 2048) : evenOf sl (ix1 t) = sl (ix1 (first t)) := by
  unfold evenOf Host.slice
  refine congrArg sl (funext fun b => Fin.ext ?_)
  match b with
  | ⟨0, _⟩ => show 0 + 2 * t.val = 2 * t.val; omega

theorem oddOf_at (sl : IVec S4096 32) (t : Fin 2048) : oddOf sl (ix1 t) = sl (ix1 (second t)) := by
  unfold oddOf Host.slice
  refine congrArg sl (funext fun b => Fin.ext ?_)
  match b with
  | ⟨0, _⟩ => show 1 + 2 * t.val = 2 * t.val + 1; omega

theorem flat_first {α : Type} (x : S2048x2.Idx → α) (t : Fin 2048) : shapeCast S4096 x shapeCasts_S2048x2_S4096 (ix1 (first t)) = x (ix2 t (0 : Fin 2)) := by
  refine shapeCast_apply x shapeCasts_S2048x2_S4096 _ _ ?_
  rw [Shape.rowMajor_val_one, Shape.rowMajor_val_two]; show t.val * 2 + 0 = 2 * t.val; omega

theorem flat_second {α : Type} (x : S2048x2.Idx → α) (t : Fin 2048) : shapeCast S4096 x shapeCasts_S2048x2_S4096 (ix1 (second t)) = x (ix2 t (1 : Fin 2)) := by
  refine shapeCast_apply x shapeCasts_S2048x2_S4096 _ _ ?_
  rw [Shape.rowMajor_val_one, Shape.rowMajor_val_two]; show t.val * 2 + 1 = 2 * t.val + 1; omega

theorem tokenOf_first (t : Fin 2048) : tokenOf (ix1 (first t)) = BitVec.ofNat 32 t.val := by
  unfold tokenOf
  refine (flat_first _ t).trans ?_
  pointwise []

theorem tokenOf_second (t : Fin 2048) : tokenOf (ix1 (second t)) = BitVec.ofNat 32 t.val := by
  unfold tokenOf
  refine (flat_second _ t).trans ?_
  pointwise []

/-- An and over an axis is one where every entry it folds is one. -/
theorem reduce_andi_col {n : Nat} (x : IVec ⟨2, ![n, 1]⟩ 1) (h : (⟨2, ![n, 1]⟩ : Shape).ReducesTo [1] ⟨1, ![n]⟩) (init : IVec S_ 1) (hi : init (Shape.Idx.first h_S_) = 1#1)
    (p : Fin n) (hx : x (ix2 p (0 : Fin 1)) = 1#1) : Host.reduce IntOp.andi x init h h_S_ (ix1 p) = 1#1 := by
  rw [Host.reduce_eq_foldl]
  refine IntOp.foldl_andi_one x _ _ hi fun i hn => ?_
  have hd : h.drop i = ix1 p := of_decide_eq_true (List.mem_filter.1 hn).2
  have hv : (h.drop i 0 : Nat) = i 0 := Shape.ReducesTo.drop_apply_val h i 0
  rw [hd] at hv
  rw [show i = ix2 p (0 : Fin 1) from ?_]
  · exact hx
  · funext b
    match b with
    | ⟨0, _⟩ => exact Fin.ext hv.symm
    | ⟨1, _⟩ => exact Subsingleton.elim (α := Fin 1) _ _

/-- The row taken for a slot whose word is a token. -/
theorem tokenRows_at (x : FVec F S2048x2048 .bf16) (st : IVec S8192 32) (s : Fin 8192) (t : Fin 2048) (k : Fin 2048)
    (hst : st (ix1 s) = BitVec.ofNat 32 t.val) : tokenRows x st (ix2 s k) = x (ix2 t k) := by
  have ht := t.isLt
  have hn : (st (ix1 s)).toNat = t.val := by rw [hst, BitVec.toNat_ofNat]; omega
  have hcol : broadcastInDim S8192x1 ![0] bcast_S8192_S8192x1_0 (select (cmpi .slt st (broadcastInDim S8192 ![] bcast_S_S8192 (constantI S_ 32 0#32)))
      (addi st (broadcastInDim S8192 ![] bcast_S_S8192 (constantI S_ 32 2048#32))) st) (ix2 s (0 : Fin 1)) = st (ix1 s) := by
    have : broadcastInDim S8192x1 ![0] bcast_S8192_S8192x1_0 (select (cmpi .slt st (broadcastInDim S8192 ![] bcast_S_S8192 (constantI S_ 32 0#32)))
      (addi st (broadcastInDim S8192 ![] bcast_S_S8192 (constantI S_ 32 2048#32))) st) (ix2 s (0 : Fin 1))
        = Scalar.select (IntOp.cmpi .slt (st (ix1 s)) 0#32) (IntOp.addi (st (ix1 s)) 2048#32) (st (ix1 s)) := by pointwise []
    rw [this]; exact wrapped (by omega)
  have hsel : ∀ (y : IVec S8192 1) (g f : FVec F S8192x2048 .bf16), y (ix1 s) = 1#1 →
      select (broadcastInDim S8192x2048 ![0] bcast_S8192_S8192x2048_0 y) g f (ix2 s k) = g (ix2 s k) := fun y g f hy => by
    have hm : broadcastInDim S8192x2048 ![0] bcast_S8192_S8192x2048_0 y (ix2 s k) = y (ix1 s) := by pointwise []
    unfold select
    rw [hm, hy]
    rfl
  have hmask : ∀ col : IVec S8192x1 32, (col (ix2 s (0 : Fin 1))).toNat ≤ 2047 →
      andi (cmpi .sge col (broadcastInDim S8192x1 ![] bcast_S_S8192x1 (constantI S_ 32 0#32)))
        (cmpi .sle col (broadcastInDim S8192x1 ![0, 1] bcast_S1x1_S8192x1_0_1 (broadcastInDim S1x1 ![1] bcast_S1_S1x1_1 (constantI S1 32 2047#32))))
        (ix2 s (0 : Fin 1)) = 1#1 := fun col h => in_range (B := 2047) rfl (by norm_num) h
  unfold tokenRows
  refine (hsel _ _ _ (reduce_andi_col _ _ _ rfl s (hmask _ ?_))).trans ?_
  · refine (congrArg BitVec.toNat hcol).trans_le ?_
    omega
  · exact Routing.gather_row (nb := 2048) (B := 2048) (n := 8192) gather_S2048x2048_S8192x1_S8192x2048_1_0_n_n_0_1_12048 rfl rfl rfl rfl rfl x _ s k t
      (hcol.trans hst) (by norm_num)

/-- The result row taken for a token whose word is a slot. -/
theorem slotRows_at (res : FVec F S8192x2048 .bf16) (sl : IVec S2048 32) (t : Fin 2048) (s : Fin 8192) (k : Fin 2048)
    (hsl : sl (ix1 t) = BitVec.ofNat 32 s.val) : slotRows res sl (ix2 t k) = res (ix2 s k) := by
  have hs := s.isLt
  have hn : (sl (ix1 t)).toNat = s.val := by rw [hsl, BitVec.toNat_ofNat]; omega
  have hcol : broadcastInDim S2048x1 ![0] bcast_S2048_S2048x1_0 (select (cmpi .slt sl (broadcastInDim S2048 ![] bcast_S_S2048 (constantI S_ 32 0#32)))
      (addi sl (broadcastInDim S2048 ![] bcast_S_S2048 (constantI S_ 32 8192#32))) sl) (ix2 t (0 : Fin 1)) = sl (ix1 t) := by
    have : broadcastInDim S2048x1 ![0] bcast_S2048_S2048x1_0 (select (cmpi .slt sl (broadcastInDim S2048 ![] bcast_S_S2048 (constantI S_ 32 0#32)))
      (addi sl (broadcastInDim S2048 ![] bcast_S_S2048 (constantI S_ 32 8192#32))) sl) (ix2 t (0 : Fin 1))
        = Scalar.select (IntOp.cmpi .slt (sl (ix1 t)) 0#32) (IntOp.addi (sl (ix1 t)) 8192#32) (sl (ix1 t)) := by pointwise []
    rw [this]; exact wrapped (by omega)
  have hsel : ∀ (y : IVec S2048 1) (g f : FVec F S2048x2048 .bf16), y (ix1 t) = 1#1 →
      select (broadcastInDim S2048x2048 ![0] bcast_S2048_S2048x2048_0 y) g f (ix2 t k) = g (ix2 t k) := fun y g f hy => by
    have hm : broadcastInDim S2048x2048 ![0] bcast_S2048_S2048x2048_0 y (ix2 t k) = y (ix1 t) := by pointwise []
    unfold select
    rw [hm, hy]
    rfl
  have hmask : ∀ col : IVec S2048x1 32, (col (ix2 t (0 : Fin 1))).toNat ≤ 8191 →
      andi (cmpi .sge col (broadcastInDim S2048x1 ![] bcast_S_S2048x1 (constantI S_ 32 0#32)))
        (cmpi .sle col (broadcastInDim S2048x1 ![0, 1] bcast_S1x1_S2048x1_0_1 (broadcastInDim S1x1 ![1] bcast_S1_S1x1_1 (constantI S1 32 8191#32))))
        (ix2 t (0 : Fin 1)) = 1#1 := fun col h => in_range (B := 8191) rfl (by norm_num) h
  unfold slotRows
  refine (hsel _ _ _ (reduce_andi_col _ _ _ rfl t (hmask _ ?_))).trans ?_
  · refine (congrArg BitVec.toNat hcol).trans_le ?_
    omega
  · exact Routing.gather_row (nb := 8192) (B := 2048) (n := 2048) gather_S8192x2048_S2048x1_S2048x2048_1_0_n_n_0_1_12048 rfl rfl rfl rfl rfl res _ t k s
      (hcol.trans hsl) (by norm_num)

end Cert.KernelIdeal.Pf
-- ==== Proof.Value.TopTwo.lean ====
/-
  The chosen experts are experts: every word a top-two choice returns is a position on the sorted axis.
-/
module

public import proofs.«01_k».proof.Proof.Value.Host
public import Idealize.ShloMosaic.Lib.Pointwise

@[expose] public section

noncomputable section

namespace Cert.KernelIdeal.Pf

open Cert.KernelIdeal Cert.KernelIdeal.Gen
open Idealize.ShloMosaic Idealize.ShloMosaic.TcCoe Idealize.ShloMosaic.Tactic

variable {F : FTy → Type} [FloatOps F]

/-- An entry of a rearranged vector is an entry of the vector. -/
theorem sort2_mem {α β : Type} {s : Shape} (d : Nat) (lt : α × β → α × β → BitVec 1) (x : s.Idx → α) (y : s.Idx → β) (j : s.Idx) :
    ∃ k, (Host.sort2 s d lt x y).2 j = y k := by
  unfold Host.sort2
  split
  · exact ⟨_, rfl⟩
  · exact ⟨_, rfl⟩

/-- The sorted positions. -/
def sort2_words (gt : F .f32 → F .f32 → BitVec 1) (x : FVec F S2048x8 .f32) : IVec S2048x8 32 :=
  (Host.sort2 S2048x8 1 (fun l r : F .f32 × BitVec 32 => gt l.1 r.1) x
    (fun i => if hd : 1 < S2048x8.rank then iotaInDim S2048x8 32 ⟨1, hd⟩ i else 0#32)).2

/-- The positions of a choice along the second axis of eight. -/
theorem topK_lt (gt : F .f32 → F .f32 → BitVec 1) (x : FVec F S2048x8 .f32) (j : S2048x2.Idx) :
    ((Host.topK S2048x2 1 gt x sliceFits_S2048x8_S2048x2).2 j).toNat < 8 := by
  have key : ∀ k : S2048x8.Idx, ((sort2_words gt x) k).toNat < 8 := fun k => by
    obtain ⟨q, hq⟩ := sort2_mem 1 (fun l r : F .f32 × BitVec 32 => gt l.1 r.1) x
      (fun i => if hd : 1 < S2048x8.rank then iotaInDim S2048x8 32 ⟨1, hd⟩ i else 0#32) k
    unfold sort2_words
    rw [hq, dif_pos (show 1 < S2048x8.rank by decide)]
    have h8 : (q 1).val < 8 := (q 1).isLt
    show (BitVec.ofNat 32 (q 1).val).toNat < 8
    rw [BitVec.toNat_ofNat]
    omega
  exact key _

/-- The choice is an expert. -/
theorem choiceOf_lt (sc : FVec F S2048x8 .f32) (gb : FVec F S8 .f32) (j : S2048x2.Idx) : (choiceOf sc gb j).toNat < 8 :=
  topK_lt _ _ j

end Cert.KernelIdeal.Pf
-- ==== Proof.Value.Rows.lean ====
/-
  One row of a gated MLP over the extended reals, and the two calls' stored blocks read at an index as such rows.
-/
module

public import proofs.«01_k».proof.Proof.Gen.KernelIdeal.Skeleton
public import Idealize.ShloMosaic.Lib.Pointwise
public import Idealize.ShloMosaic.Lib.MatmulPlain

@[expose] public section

noncomputable section

namespace Cert.Moe

open Idealize.ShloMosaic
open scoped BigOperators

/-- The product of a token's row with one row of a weight. -/
def dotp (x w : Fin 2048 → EReal) : EReal := ∑ k, x k * w k

/-- A hidden value: the gate's product, times its logistic, times the up product. -/
def hid (x g u : Fin 2048 → EReal) : EReal := dotp x g * Ideal.logistic (dotp x g) * dotp x u

/-- The down product of the hidden values. -/
def mlp (x : Fin 2048 → EReal) (g u : Fin 1408 → Fin 2048 → EReal) (d : Fin 1408 → EReal) : EReal :=
  ∑ f, hid x (g f) (u f) * d f

/-- The down product of the hidden values, each scaled by `w` first. -/
def mlpScaled (w : EReal) (x : Fin 2048 → EReal) (g u : Fin 1408 → Fin 2048 → EReal) (d : Fin 1408 → EReal) : EReal :=
  ∑ f, hid x (g f) (u f) * w * d f

end Cert.Moe

namespace Cert.KernelIdeal.Pf

open Cert.KernelIdeal Cert.KernelIdeal.Gen Cert.Moe
open Idealize.ShloMosaic
open scoped BigOperators

/-- The routed call's stored block at an index. -/
theorem pay0_apply (x : Vec Ideal S512x2048 .bf16) (g u : Vec Ideal S1x1408x2048 .bf16) (w : Vec Ideal S512x1 .f32)
    (d : Vec Ideal S1x2048x1408 .bf16) (r : Fin 512) (q : Fin 2048) :
    k0_pay1 x g u w d (ix2 r q)
      = mlpScaled (w (ix2 r 0)) (fun k => x (ix2 r k)) (fun f k => g (ix3 0 f k)) (fun f k => u (ix3 0 f k)) (fun f => d (ix3 0 q f)) := by
  unfold mlpScaled hid dotp
  pointwise [k0_pay1]
  try rfl

/-- The shared call's stored block at an index. -/
theorem pay1_apply (x : Vec Ideal S512x2048 .bf16) (g u : Vec Ideal S1408x2048 .bf16) (a b : Vec Ideal S512x2048 .bf16)
    (d : Vec Ideal S2048x1408 .bf16) (r : Fin 512) (q : Fin 2048) :
    k1_pay1 x g u a b d (ix2 r q)
      = a (ix2 r q) + b (ix2 r q)
        + mlp (fun k => x (ix2 r k)) (fun f k => g (ix2 f k)) (fun f k => u (ix2 f k)) (fun f => d (ix2 q f)) := by
  unfold mlp hid dotp
  pointwise [k1_pay1]
  try rfl

end Cert.KernelIdeal.Pf
-- ==== Proof.Value.Out0.lean ====
/-
  What the routed call leaves in its result, at an index: a row of the gathered tokens through the expert that the
  prefetched table names for the row's tile, scaled by the row's weight.
-/
module

public import proofs.«01_k».proof.Proof.Value.Rows
public import proofs.«01_k».proof.Proof.KernelIdeal.Region0
public import Idealize.ShloMosaic.Lib.Pipeline.Covers
public import Idealize.ShloMosaic.Lib.Pipeline.ValueKit

@[expose] public section

noncomputable section

namespace Cert.KernelIdeal.Pf

open Cert.KernelIdeal Cert.KernelIdeal.Gen Cert.Moe
open Idealize.ShloMosaic Idealize.ShloMosaic.TcCoe Idealize.ShloMosaic.Tactic
open Idealize.ShloMosaic.Pipeline (Dat Cfg Window cellOf)

variable (a : (pcfg0 (F := Ideal)).Adm)

/-- A point of the grid is its own coordinate. -/
theorem coord0 : ∀ t : Fin grid0.N, (grid0.coords t 0).val = t.val := by decide +kernel

/-- Every tile of the result is written back. -/
theorem covers0 : ((cfg0 a).win 5).Covers := by
  refine Window.covers_of_indexMap_surj _ rfl (fun a => ?_) (fun β => ?_)
  · match a with
    | ⟨0, _⟩ => exact (by decide : 0 < 512)
    | ⟨1, _⟩ => exact (by decide : 0 < 2048)
  · have h0 : (β (0 : Fin 2) : ℕ) < 16 := lt_of_lt_of_eq (β (0 : Fin 2)).isLt (by unfold Window.nblk; show (8192 + 512 - 1) / 512 = 16; norm_num)
    have h1 : (β (1 : Fin 2) : ℕ) < 1 := lt_of_lt_of_eq (β (1 : Fin 2)).isLt (by unfold Window.nblk; show (2048 + 2048 - 1) / 2048 = 1; norm_num)
    refine ⟨fun _ => ⟨(β (0 : Fin 2) : ℕ), by simpa using h0⟩, fun q => ?_⟩
    match q with
    | ⟨0, _⟩ =>
      show (BitVec.ofNat 32 (β (0 : Fin 2) : ℕ)).toNat = (β (0 : Fin 2) : ℕ)
      rw [BitVec.toNat_ofNat]; omega
    | ⟨1, _⟩ =>
      show 0 = (β (1 : Fin 2) : ℕ)
      omega

theorem index0_0 (t : Fin grid0.N) (q : Fin 2) : cc0_transform_0 (grid0.coords t) q = (![t.val, 0] : Fin 2 → ℕ) q := by
  have := coord0 t
  have ht : t.val < 16 := t.isLt
  fin_cases q
  · show (BitVec.ofNat 32 (grid0.coords t 0).val).toNat = t.val
    rw [this, BitVec.toNat_ofNat]; omega
  · rfl

/-- The expert that the table names for a tile. -/
def expOf (t : Fin grid0.N) : ℕ := (a.1 0 (ix1 (t : Fin 16)) : BitVec 32).toNat

theorem index0_2 (t : Fin grid0.N) (q : Fin 3) : cc0_transform_2 k0_off1_inb numel1_S1 a.1 (grid0.coords t) q = (![expOf a t, 0, 0] : Fin 3 → ℕ) q := by
  have hc := coord0 t
  have ht : t.val < 16 := t.isLt
  fin_cases q
  · show (a.1 0 _ : BitVec 32).toNat = (a.1 0 _ : BitVec 32).toNat
    refine congrArg (fun i => (a.1 0 i : BitVec 32).toNat) ?_
    funext q
    fin_cases q
    apply Fin.ext
    show (BitVec.ofNat 32 (grid0.coords t 0).val).toNat + 1 * 0 = t.val
    rw [hc, BitVec.toNat_ofNat]; omega
  · rfl
  · rfl

/-- A tile's expert is one of the eight: the table is one that the call admits. -/
theorem expOf_lt (t : Fin grid0.N) : expOf a t < 8 := by
  obtain ⟨h, -⟩ := a.2.1 (grid0.coords t)
  have h0 := h (0 : Fin 3)
  rw [index0_2] at h0
  have : (expOf a t + 1) * 1 ≤ 8 := h0
  omega

/-- The same, as a number below eight. -/
def expF (t : Fin grid0.N) : Fin 8 := ⟨expOf a t, expOf_lt a t⟩

variable (V : (c : Dev nD) → Valuation τ sig (Elt Ideal))

/-- The buffers that the call reads, as vectors. -/
abbrev rowsIn (c : Dev nD) : Vec Ideal S8192x2048 .bf16 := V c (Proc.devRef .tc main_v84)
abbrev wIn (c : Dev nD) : Vec Ideal S8192x1 .f32 := V c (Proc.devRef .tc main_v69)
abbrev gateIn (c : Dev nD) : Vec Ideal S8x1408x2048 .bf16 := V c (Proc.devRef .tc main_v81)
abbrev upIn (c : Dev nD) : Vec Ideal S8x1408x2048 .bf16 := V c (Proc.devRef .tc main_v82)
abbrev downIn (c : Dev nD) : Vec Ideal S8x2048x1408 .bf16 := V c (Proc.devRef .tc main_v83)

/-- The tile of a row. -/
def tileOf (s : Fin 8192) : Fin grid0.N := ⟨s.val / 512, by have := s.isLt; show _ < 16; omega⟩

/-- The routed call's result. -/
def out0 (c : Dev nD) : Vec Ideal S8192x2048 .bf16 := fun j =>
  mlpScaled (wIn V c (ix2 (j 0) 0)) (fun k => rowsIn V c (ix2 (j 0) k)) (fun f k => gateIn V c (ix3 (expF a (tileOf (j 0))) f k))
    (fun f k => upIn V c (ix3 (expF a (tileOf (j 0))) f k)) (fun f => downIn V c (ix3 (expF a (tileOf (j 0))) (j 1) f))

theorem iblk0_0_apply (c : Dev nD) (t : Fin (cfg0 a).N) (r : Fin 512) (k : Fin 2048) (s : Fin 8192) (hs : s.val = t.val * 512 + r.val) :
    iblk0 a V c 0 t (ix2 r k) = rowsIn V c (ix2 s k) := by
  show rowsIn V c _ = _
  refine congrArg (rowsIn V c) ?_
  funext q
  apply Fin.ext
  match q with
  | ⟨0, _⟩ =>
    show cc0_transform_0 (grid0.coords t) (0 : Fin 2) * 512 + 1 * r.val = s.val
    rw [index0_0]
    show t.val * 512 + 1 * r.val = s.val
    omega
  | ⟨1, _⟩ =>
    show cc0_transform_0 (grid0.coords t) (1 : Fin 2) * 2048 + 1 * k.val = k.val
    rw [index0_0]
    show 0 * 2048 + 1 * k.val = k.val
    omega

theorem iblk0_1_apply (c : Dev nD) (t : Fin (cfg0 a).N) (r : Fin 512) (s : Fin 8192) (hs : s.val = t.val * 512 + r.val) :
    iblk0 a V c 1 t (ix2 r 0) = wIn V c (ix2 s 0) := by
  show wIn V c _ = _
  refine congrArg (wIn V c) ?_
  funext q
  apply Fin.ext
  match q with
  | ⟨0, _⟩ =>
    show cc0_transform_0 (grid0.coords t) (0 : Fin 2) * 512 + 1 * r.val = s.val
    rw [index0_0]
    show t.val * 512 + 1 * r.val = s.val
    omega
  | ⟨1, _⟩ => rfl

theorem iblk0_2_apply (c : Dev nD) (t : Fin (cfg0 a).N) (f : Fin 1408) (k : Fin 2048) :
    iblk0 a V c 2 t (ix3 0 f k) = gateIn V c (ix3 (expF a t) f k) := by
  show gateIn V c _ = _
  refine congrArg (gateIn V c) ?_
  funext q
  apply Fin.ext
  match q with
  | ⟨0, _⟩ =>
    show cc0_transform_2 k0_off1_inb numel1_S1 a.1 (grid0.coords t) (0 : Fin 3) * 1 + 1 * 0 = expOf a t
    rw [index0_2]
    show expOf a t * 1 + 1 * 0 = expOf a t
    omega
  | ⟨1, _⟩ =>
    show 0 * 1408 + 1 * f.val = f.val
    omega
  | ⟨2, _⟩ =>
    show 0 * 2048 + 1 * k.val = k.val
    omega

theorem iblk0_3_apply (c : Dev nD) (t : Fin (cfg0 a).N) (f : Fin 1408) (k : Fin 2048) :
    iblk0 a V c 3 t (ix3 0 f k) = upIn V c (ix3 (expF a t) f k) := by
  show upIn V c _ = _
  refine congrArg (upIn V c) ?_
  funext q
  apply Fin.ext
  match q with
  | ⟨0, _⟩ =>
    show cc0_transform_2 k0_off1_inb numel1_S1 a.1 (grid0.coords t) (0 : Fin 3) * 1 + 1 * 0 = expOf a t
    rw [index0_2]
    show expOf a t * 1 + 1 * 0 = expOf a t
    omega
  | ⟨1, _⟩ =>
    show 0 * 1408 + 1 * f.val = f.val
    omega
  | ⟨2, _⟩ =>
    show 0 * 2048 + 1 * k.val = k.val
    omega

theorem iblk0_4_apply (c : Dev nD) (t : Fin (cfg0 a).N) (f : Fin 2048) (k : Fin 1408) :
    iblk0 a V c 4 t (ix3 0 f k) = downIn V c (ix3 (expF a t) f k) := by
  show downIn V c _ = _
  refine congrArg (downIn V c) ?_
  funext q
  apply Fin.ext
  match q with
  | ⟨0, _⟩ =>
    show cc0_transform_2 k0_off1_inb numel1_S1 a.1 (grid0.coords t) (0 : Fin 3) * 1 + 1 * 0 = expOf a t
    rw [index0_2]
    show expOf a t * 1 + 1 * 0 = expOf a t
    omega
  | ⟨1, _⟩ =>
    show 0 * 2048 + 1 * f.val = f.val
    omega
  | ⟨2, _⟩ =>
    show 0 * 1408 + 1 * k.val = k.val
    omega

/-- **The routed call's result**, whatever the buffers hold at its entry. -/
theorem out0_eq (c : Dev nD) : (dat0 a V c).arrAt 5 (cfg0 a).N = out0 a V c := by
  refine (dat0 a V c).arrAt_eq_of_covers 5 _ (covers0 a) (fun t _ y => ?_)
  obtain ⟨r, q, rfl⟩ : ∃ (r : Fin 512) (q : Fin 2048), y = (ix2 r q : S512x2048.Idx) := ⟨y (0 : Fin 2), y (1 : Fin 2), by funext p; match p with | ⟨0, _⟩ => rfl | ⟨1, _⟩ => rfl⟩
  have ht : t.val < 16 := t.isLt
  have he : (((cfg0 a).win 5).blk t).view.emb (ix2 r q : S512x2048.Idx) = (ix2 (⟨t.val * 512 + r.val, by have := r.isLt; omega⟩ : Fin 8192) q : S8192x2048.Idx) := by
    funext p
    apply Fin.ext
    match p with
    | ⟨0, _⟩ =>
      show cc0_transform_0 (grid0.coords t) (0 : Fin 2) * 512 + 1 * r.val = t.val * 512 + r.val
      rw [index0_0]
      show t.val * 512 + 1 * r.val = t.val * 512 + r.val
      omega
    | ⟨1, _⟩ =>
      show 0 * 2048 + 1 * q.val = q.val
      omega
  rw [he]
  have htile : tileOf (⟨t.val * 512 + r.val, by have := r.isLt; omega⟩ : Fin 8192) = t := by
    apply Fin.ext
    show (t.val * 512 + r.val) / 512 = t.val
    have := r.isLt
    omega
  show k0_pay1 (iblk0 a V c 0 t) (iblk0 a V c 2 t) (iblk0 a V c 3 t) (iblk0 a V c 1 t) (iblk0 a V c 4 t) (ix2 r q) = _
  refine (pay0_apply (iblk0 a V c 0 t) (iblk0 a V c 2 t) (iblk0 a V c 3 t) (iblk0 a V c 1 t) (iblk0 a V c 4 t) r q).trans ?_
  show _ = mlpScaled (wIn V c (ix2 (⟨t.val * 512 + r.val, _⟩ : Fin 8192) 0)) (fun k => rowsIn V c (ix2 (⟨t.val * 512 + r.val, _⟩ : Fin 8192) k))
    (fun f k => gateIn V c (ix3 (expF a (tileOf (⟨t.val * 512 + r.val, _⟩ : Fin 8192))) f k))
    (fun f k => upIn V c (ix3 (expF a (tileOf (⟨t.val * 512 + r.val, _⟩ : Fin 8192))) f k))
    (fun f => downIn V c (ix3 (expF a (tileOf (⟨t.val * 512 + r.val, _⟩ : Fin 8192))) q f))
  rw [htile]
  congr 1
  · exact iblk0_1_apply a V c t r _ rfl
  · funext k; exact iblk0_0_apply a V c t r k _ rfl
  · funext f k; exact iblk0_2_apply a V c t f k
  · funext f k; exact iblk0_3_apply a V c t f k
  · funext f; exact iblk0_4_apply a V c t q f

end Cert.KernelIdeal.Pf
-- ==== Proof.Value.Out1.lean ====
/-
  What the shared call leaves in its result, at an index: the two routed rows and the token's row through the shared
  expert.
-/
module

public import proofs.«01_k».proof.Proof.Value.Rows
public import proofs.«01_k».proof.Proof.KernelIdeal.Region1
public import Idealize.ShloMosaic.Lib.Pipeline.Covers
public import Idealize.ShloMosaic.Lib.Pipeline.ValueKit

@[expose] public section

noncomputable section

namespace Cert.KernelIdeal.Pf

open Cert.KernelIdeal Cert.KernelIdeal.Gen Cert.Moe
open Idealize.ShloMosaic Idealize.ShloMosaic.TcCoe Idealize.ShloMosaic.Tactic
open Idealize.ShloMosaic.Pipeline (Dat Cfg Window cellOf)

/-- A point of the grid is its own coordinate. -/
theorem coord1 : ∀ t : Fin grid1.N, (grid1.coords t 0).val = t.val := by decide +kernel

/-- Every tile of the result is written back. -/
theorem covers1 : (cfg1.win 6).Covers := by decide +kernel

theorem index1_0 (t : Fin grid1.N) (q : Fin 2) : cc1_transform_0 (grid1.coords t) q = (![t.val, 0] : Fin 2 → ℕ) q := by
  have := coord1 t
  have ht : t.val < 4 := t.isLt
  fin_cases q
  · show (BitVec.ofNat 32 (grid1.coords t 0).val).toNat = t.val
    rw [this, BitVec.toNat_ofNat]; omega
  · rfl

variable (V : (c : Dev nD) → Valuation τ sig (Elt Ideal))

/-- The buffers that the call reads, as vectors. -/
abbrev tokIn (c : Dev nD) : Vec Ideal S2048x2048 .bf16 := V c (Proc.devRef .tc main_v80)
abbrev firstIn (c : Dev nD) : Vec Ideal S2048x2048 .bf16 := V c (Proc.devRef .tc main_v87)
abbrev secondIn (c : Dev nD) : Vec Ideal S2048x2048 .bf16 := V c (Proc.devRef .tc main_v89)
abbrev sGateIn (c : Dev nD) : Vec Ideal S1408x2048 .bf16 := V c (Proc.devRef .tc main_v90)
abbrev sUpIn (c : Dev nD) : Vec Ideal S1408x2048 .bf16 := V c (Proc.devRef .tc main_v91)
abbrev sDownIn (c : Dev nD) : Vec Ideal S2048x1408 .bf16 := V c (Proc.devRef .tc main_v92)

/-- The shared call's result. -/
def out1 (c : Dev nD) : Vec Ideal S2048x2048 .f32 := fun j =>
  firstIn V c (ix2 (j 0) (j 1)) + secondIn V c (ix2 (j 0) (j 1))
    + mlp (fun k => tokIn V c (ix2 (j 0) k)) (fun f k => sGateIn V c (ix2 f k)) (fun f k => sUpIn V c (ix2 f k)) (fun f => sDownIn V c (ix2 (j 1) f))

theorem iblk1_0_apply (c : Dev nD) (t : Fin cfg1.N) (r : Fin 512) (k : Fin 2048) (s : Fin 2048) (hs : s.val = t.val * 512 + r.val) :
    iblk1 V c 0 t (ix2 r k) = tokIn V c (ix2 s k) := by
  show tokIn V c _ = _
  refine congrArg (tokIn V c) ?_
  funext q
  apply Fin.ext
  match q with
  | ⟨0, _⟩ =>
    show cc1_transform_0 (grid1.coords t) (0 : Fin 2) * 512 + 1 * r.val = s.val
    rw [index1_0]
    show t.val * 512 + 1 * r.val = s.val
    omega
  | ⟨1, _⟩ =>
    show 0 * 2048 + 1 * k.val = k.val
    omega

theorem iblk1_1_apply (c : Dev nD) (t : Fin cfg1.N) (r : Fin 512) (k : Fin 2048) (s : Fin 2048) (hs : s.val = t.val * 512 + r.val) :
    iblk1 V c 1 t (ix2 r k) = firstIn V c (ix2 s k) := by
  show firstIn V c _ = _
  refine congrArg (firstIn V c) ?_
  funext q
  apply Fin.ext
  match q with
  | ⟨0, _⟩ =>
    show cc1_transform_0 (grid1.coords t) (0 : Fin 2) * 512 + 1 * r.val = s.val
    rw [index1_0]
    show t.val * 512 + 1 * r.val = s.val
    omega
  | ⟨1, _⟩ =>
    show 0 * 2048 + 1 * k.val = k.val
    omega

theorem iblk1_2_apply (c : Dev nD) (t : Fin cfg1.N) (r : Fin 512) (k : Fin 2048) (s : Fin 2048) (hs : s.val = t.val * 512 + r.val) :
    iblk1 V c 2 t (ix2 r k) = secondIn V c (ix2 s k) := by
  show secondIn V c _ = _
  refine congrArg (secondIn V c) ?_
  funext q
  apply Fin.ext
  match q with
  | ⟨0, _⟩ =>
    show cc1_transform_0 (grid1.coords t) (0 : Fin 2) * 512 + 1 * r.val = s.val
    rw [index1_0]
    show t.val * 512 + 1 * r.val = s.val
    omega
  | ⟨1, _⟩ =>
    show 0 * 2048 + 1 * k.val = k.val
    omega

theorem iblk1_3_apply (c : Dev nD) (t : Fin cfg1.N) (f : Fin 1408) (k : Fin 2048) :
    iblk1 V c 3 t (ix2 f k) = sGateIn V c (ix2 f k) := by
  show sGateIn V c _ = _
  refine congrArg (sGateIn V c) ?_
  funext q
  apply Fin.ext
  match q with
  | ⟨0, _⟩ =>
    show 0 * 1408 + 1 * f.val = f.val
    omega
  | ⟨1, _⟩ =>
    show 0 * 2048 + 1 * k.val = k.val
    omega

theorem iblk1_4_apply (c : Dev nD) (t : Fin cfg1.N) (f : Fin 1408) (k : Fin 2048) :
    iblk1 V c 4 t (ix2 f k) = sUpIn V c (ix2 f k) := by
  show sUpIn V c _ = _
  refine congrArg (sUpIn V c) ?_
  funext q
  apply Fin.ext
  match q with
  | ⟨0, _⟩ =>
    show 0 * 1408 + 1 * f.val = f.val
    omega
  | ⟨1, _⟩ =>
    show 0 * 2048 + 1 * k.val = k.val
    omega

theorem iblk1_5_apply (c : Dev nD) (t : Fin cfg1.N) (f : Fin 2048) (k : Fin 1408) :
    iblk1 V c 5 t (ix2 f k) = sDownIn V c (ix2 f k) := by
  show sDownIn V c _ = _
  refine congrArg (sDownIn V c) ?_
  funext q
  apply Fin.ext
  match q with
  | ⟨0, _⟩ =>
    show 0 * 2048 + 1 * f.val = f.val
    omega
  | ⟨1, _⟩ =>
    show 0 * 1408 + 1 * k.val = k.val
    omega

/-- **The shared call's result**, whatever the buffers hold at its entry. -/
theorem out1_eq (c : Dev nD) : (dat1 V c).arrAt 6 cfg1.N = out1 V c := by
  refine (dat1 V c).arrAt_eq_of_covers 6 _ covers1 (fun t _ y => ?_)
  obtain ⟨r, q, rfl⟩ : ∃ (r : Fin 512) (q : Fin 2048), y = (ix2 r q : S512x2048.Idx) := ⟨y (0 : Fin 2), y (1 : Fin 2), by funext p; match p with | ⟨0, _⟩ => rfl | ⟨1, _⟩ => rfl⟩
  have ht : t.val < 4 := t.isLt
  have he : ((cfg1.win 6).blk t).view.emb (ix2 r q : S512x2048.Idx) = (ix2 (⟨t.val * 512 + r.val, by have := r.isLt; omega⟩ : Fin 2048) q : S2048x2048.Idx) := by
    funext p
    apply Fin.ext
    match p with
    | ⟨0, _⟩ =>
      show cc1_transform_0 (grid1.coords t) (0 : Fin 2) * 512 + 1 * r.val = t.val * 512 + r.val
      rw [index1_0]
      show t.val * 512 + 1 * r.val = t.val * 512 + r.val
      omega
    | ⟨1, _⟩ =>
      show 0 * 2048 + 1 * q.val = q.val
      omega
  rw [he]
  show k1_pay1 (iblk1 V c 0 t) (iblk1 V c 3 t) (iblk1 V c 4 t) (iblk1 V c 1 t) (iblk1 V c 2 t) (iblk1 V c 5 t) (ix2 r q) = _
  refine (pay1_apply (iblk1 V c 0 t) (iblk1 V c 3 t) (iblk1 V c 4 t) (iblk1 V c 1 t) (iblk1 V c 2 t) (iblk1 V c 5 t) r q).trans ?_
  show _ = firstIn V c (ix2 (⟨t.val * 512 + r.val, _⟩ : Fin 2048) q) + secondIn V c (ix2 (⟨t.val * 512 + r.val, _⟩ : Fin 2048) q)
    + mlp (fun k => tokIn V c (ix2 (⟨t.val * 512 + r.val, _⟩ : Fin 2048) k)) (fun f k => sGateIn V c (ix2 f k)) (fun f k => sUpIn V c (ix2 f k)) (fun f => sDownIn V c (ix2 q f))
  refine congrArg₂ (· + ·) (congrArg₂ (· + ·) (iblk1_1_apply V c t r q _ rfl) (iblk1_2_apply V c t r q _ rfl)) ?_
  congr 1
  · funext k; exact iblk1_0_apply V c t r k _ rfl
  · funext f k; exact iblk1_3_apply V c t f k
  · funext f k; exact iblk1_4_apply V c t f k
  · funext f; exact iblk1_5_apply V c t q f

end Cert.KernelIdeal.Pf
-- ==== Proof.Value.KernelValue.lean ====
/-
  The kernel's result at a token and a column: the two chosen experts' rows with their weights inside, and the shared row.
-/
module

public import proofs.«01_k».proof.Proof.Value.Slots
public import proofs.«01_k».proof.Proof.Value.Takes
public import proofs.«01_k».proof.Proof.Value.TopTwo
public import proofs.«01_k».proof.Proof.Value.Out0
public import proofs.«01_k».proof.Proof.Value.Out1

@[expose] public section

noncomputable section

namespace Cert.KernelIdeal.Pf

open Cert.KernelIdeal Cert.KernelIdeal.Gen
open Idealize.ShloMosaic Idealize.ShloMosaic.TcCoe Idealize.ShloMosaic.Tactic
open Cert.Moe

variable (m : (ℓ : Loc nD τ sig) → Buf (Elt Ideal) ℓ) (c : Dev nD)

/-- A token's chosen experts. -/
def expertM (t : Fin 2048) (k : Fin 2) : Fin 8 := ⟨(choiceM m c (ix2 t k)).toNat, choiceOf_lt _ _ _⟩

theorem flatM_lt (i : S4096.Idx) : (flatM m c i).toNat < 8 := choiceOf_lt _ _ _

theorem chN_first (t : Fin 2048) : chN (flatM m c) (first t) = expertM m c t 0 := by
  rw [chN_fin]
  show _ = (choiceM m c (ix2 t (0 : Fin 2))).toNat
  exact congrArg (fun b : BitVec 32 => b.toNat) (flat_first (choiceM m c) t)

theorem chN_second (t : Fin 2048) : chN (flatM m c) (second t) = expertM m c t 1 := by
  rw [chN_fin]
  show _ = (choiceM m c (ix2 t (1 : Fin 2))).toNat
  exact congrArg (fun b : BitVec 32 => b.toNat) (flat_second (choiceM m c) t)

/-- A choice's slot, as a row of the routed call's result. -/
def slotF (j : Fin 4096) : Fin 8192 := ⟨slN (flatM m c) j, slN_lt (flatM m c) (flatM_lt m c) j.isLt⟩

theorem rowsIn_at (j : Fin 4096) (t : Fin 2048) (hj : tokenOf (ix1 j) = BitVec.ofNat 32 t.val) (k : Fin 2048) :
    rowsIn (V13 m) c (ix2 (slotF m c j) k) = aX m c (ix3 (0 : Fin 1) t k) := by
  have h : rowsIn (V13 m) c = tokenRows (castTokens (xOf (aX m c))) (slotToken (slotsA (flatM m c)) tokenOf) := at_v84 m c
  rw [h]
  refine (tokenRows_at _ _ (slotF m c j) t k ((slotToken_at (flatM m c) (flatM_lt m c) tokenOf j).trans hj)).trans ?_
  show xOf (aX m c) (ix2 t k) = _
  unfold xOf
  refine shapeCast_apply _ shapeCasts_S1x2048x2048_S2048x2048 _ _ ?_
  rw [Shape.rowMajor_val_three, Shape.rowMajor_val_two]
  show (0 * 2048 + t.val) * 2048 + k.val = t.val * 2048 + k.val
  omega

theorem wIn_at (j : Fin 4096) : wIn (V13 m) c (ix2 (slotF m c j) (0 : Fin 1)) = flatWeights (weightM m c) (ix1 j) := by
  have h : wIn (V13 m) c = slotWeight (slotsA (flatM m c)) (flatWeights (weightM m c)) := in0_v69 m c
  rw [h]
  exact slotWeight_at (flatM m c) (flatM_lt m c) _ j

theorem gateIn_at : gateIn (V13 m) c = aG m c := in0_v81 m c
theorem upIn_at : upIn (V13 m) c = aU m c := in0_v82 m c
theorem downIn_at : downIn (V13 m) c = aD m c := in0_v83 m c

theorem expF_at (j : Fin 4096) : (expF (adm m 0) (tileOf (slotF m c j))).val = chN (flatM m c) j := by
  obtain rfl : c = 0 := Subsingleton.elim _ _
  have h : (tbl m 0 : IVec S16 32) = tileTable (cumA (flatM m 0)) := in0_v79 m 0
  show (tbl m 0 (ix1 _) : BitVec 32).toNat = _
  refine (congrArg (fun T : IVec S16 32 => (T (ix1 _)).toNat) h).trans ?_
  exact tileTable_at (flatM m 0) (flatM_lt m 0) j _ rfl

/-- The routed call's result in a choice's slot. -/
theorem res_at (j : Fin 4096) (t : Fin 2048) (e : Fin 8) (w : EReal) (hj : tokenOf (ix1 j) = BitVec.ofNat 32 t.val)
    (he : chN (flatM m c) j = e) (hw : flatWeights (weightM m c) (ix1 j) = w) (d : Fin 2048) :
    (V14 m (outs m) c (Proc.devRef .tc main_v85) : FVec Ideal S8192x2048 .bf16) (ix2 (slotF m c j) d)
      = mlpScaled w (fun k => aX m c (ix3 (0 : Fin 1) t k)) (fun f k => aG m c (ix3 e f k)) (fun f k => aU m c (ix3 e f k))
          (fun f => aD m c (ix3 e d f)) := by
  have hE : expF (adm m 0) (tileOf (slotF m c j)) = e := Fin.ext ((expF_at m c j).trans he)
  refine (congrFun ((out_v85 m c).trans (out0_eq (adm m 0) (V13 m) c)) (ix2 (slotF m c j) d)).trans ?_
  show mlpScaled (wIn (V13 m) c (ix2 (slotF m c j) 0)) (fun k => rowsIn (V13 m) c (ix2 (slotF m c j) k))
    (fun f k => gateIn (V13 m) c (ix3 (expF (adm m 0) (tileOf (slotF m c j))) f k))
    (fun f k => upIn (V13 m) c (ix3 (expF (adm m 0) (tileOf (slotF m c j))) f k))
    (fun f => downIn (V13 m) c (ix3 (expF (adm m 0) (tileOf (slotF m c j))) d f)) = _
  rw [hE, wIn_at, hw, gateIn_at, upIn_at, downIn_at]
  simp only [rowsIn_at m c j t hj]

theorem firstIn_at (t d : Fin 2048) : firstIn (W19 m) c (ix2 t d)
    = mlpScaled (weightM m c (ix2 t (0 : Fin 2))) (fun k => aX m c (ix3 (0 : Fin 1) t k)) (fun f k => aG m c (ix3 (expertM m c t 0) f k))
        (fun f k => aU m c (ix3 (expertM m c t 0) f k)) (fun f => aD m c (ix3 (expertM m c t 0) d f)) := by
  have h : firstIn (W19 m) c = slotRows (F := Ideal) (V14 m (outs m) c (Proc.devRef .tc main_v85)) (evenOf (slotsA (flatM m c))) := in1_v87 m c
  rw [h, slotRows_at _ _ t (slotF m c (first t)) d ((evenOf_at _ t).trans (slotsA_at (flatM m c) (flatM_lt m c) (first t)))]
  exact res_at m c (first t) t (expertM m c t 0) _ (tokenOf_first t) (chN_first m c t) (flat_first _ t) d

theorem secondIn_at (t d : Fin 2048) : secondIn (W19 m) c (ix2 t d)
    = mlpScaled (weightM m c (ix2 t (1 : Fin 2))) (fun k => aX m c (ix3 (0 : Fin 1) t k)) (fun f k => aG m c (ix3 (expertM m c t 1) f k))
        (fun f k => aU m c (ix3 (expertM m c t 1) f k)) (fun f => aD m c (ix3 (expertM m c t 1) d f)) := by
  have h : secondIn (W19 m) c = slotRows (F := Ideal) (V14 m (outs m) c (Proc.devRef .tc main_v85)) (oddOf (slotsA (flatM m c))) := in1_v89 m c
  rw [h, slotRows_at _ _ t (slotF m c (second t)) d ((oddOf_at _ t).trans (slotsA_at (flatM m c) (flatM_lt m c) (second t)))]
  exact res_at m c (second t) t (expertM m c t 1) _ (tokenOf_second t) (chN_second m c t) (flat_second _ t) d

theorem tokIn_at (t k : Fin 2048) : tokIn (W19 m) c (ix2 t k) = aX m c (ix3 (0 : Fin 1) t k) := by
  have h : tokIn (W19 m) c = castTokens (xOf (aX m c)) := in1_v80 m c
  rw [h]
  show xOf (aX m c) (ix2 t k) = _
  unfold xOf
  refine shapeCast_apply _ shapeCasts_S1x2048x2048_S2048x2048 _ _ ?_
  rw [Shape.rowMajor_val_three, Shape.rowMajor_val_two]
  show (0 * 2048 + t.val) * 2048 + k.val = t.val * 2048 + k.val
  omega

theorem sGateIn_at : sGateIn (W19 m) c = aSG m c := at_v90 m c
theorem sUpIn_at : sUpIn (W19 m) c = aSU m c := at_v91 m c
theorem sDownIn_at : sDownIn (W19 m) c = aSD m c := at_v92 m c

/-- The kernel's result. -/
theorem kernel_at (t d : Fin 2048) :
    (V21 m (outs m) c (Proc.devRef .tc main_v94) : FVec Ideal S1x2048x2048 .f32) (ix3 (0 : Fin 1) t d)
      = mlpScaled (weightM m c (ix2 t (0 : Fin 2))) (fun k => aX m c (ix3 (0 : Fin 1) t k)) (fun f k => aG m c (ix3 (expertM m c t 0) f k))
          (fun f k => aU m c (ix3 (expertM m c t 0) f k)) (fun f => aD m c (ix3 (expertM m c t 0) d f))
        + mlpScaled (weightM m c (ix2 t (1 : Fin 2))) (fun k => aX m c (ix3 (0 : Fin 1) t k)) (fun f k => aG m c (ix3 (expertM m c t 1) f k))
          (fun f k => aU m c (ix3 (expertM m c t 1) f k)) (fun f => aD m c (ix3 (expertM m c t 1) d f))
        + mlp (fun k => aX m c (ix3 (0 : Fin 1) t k)) (fun f k => aSG m c (ix2 f k)) (fun f k => aSU m c (ix2 f k)) (fun f => aSD m c (ix2 d f)) := by
  rw [at_v94]
  unfold finalOf
  refine (shapeCast_apply _ shapeCasts_S2048x2048_S1x2048x2048 _ (ix2 t d) ?_).trans ?_
  · rw [Shape.rowMajor_val_three, Shape.rowMajor_val_two]
    show t.val * 2048 + d.val = (0 * 2048 + t.val) * 2048 + d.val
    omega
  refine (congrFun ((out_v93 m c).trans (out1_eq (W19 m) c)) (ix2 t d)).trans ?_
  show firstIn (W19 m) c (ix2 t d) + secondIn (W19 m) c (ix2 t d) + mlp (fun k => tokIn (W19 m) c (ix2 t k)) (fun f k => sGateIn (W19 m) c (ix2 f k))
    (fun f k => sUpIn (W19 m) c (ix2 f k)) (fun f => sDownIn (W19 m) c (ix2 d f)) = _
  rw [firstIn_at, secondIn_at, sGateIn_at, sUpIn_at, sDownIn_at, show (fun k => tokIn (W19 m) c (ix2 t k)) = fun k => aX m c (ix3 (0 : Fin 1) t k) from funext fun k => tokIn_at m c t k]

end Cert.KernelIdeal.Pf
-- ==== Proof.Value.Weights.lean ====
/-
  The weights are nonnegative and finite: a score is a logistic, and a weight is a score over a positive sum, times a constant.
-/
module

public import proofs.«01_k».proof.Proof.Value.KernelValue

@[expose] public section

noncomputable section

namespace Cert.KernelIdeal.Pf

open Cert.KernelIdeal Cert.KernelIdeal.Gen Cert.Moe
open Idealize.ShloMosaic Idealize.ShloMosaic.TcCoe Idealize.ShloMosaic.Tactic
open scoped BigOperators

theorem inv_ne_top (y : EReal) : y⁻¹ ≠ ⊤ := by
  induction y with
  | bot => simp
  | top => simp
  | coe r => rw [← EReal.coe_inv]; exact EReal.coe_ne_top _

theorem mul_fin {x y : EReal} (hx : 0 ≤ x) (hx' : x ≠ ⊤) (hy : 0 ≤ y) (hy' : y ≠ ⊤) : 0 ≤ x * y ∧ x * y ≠ ⊤ := by
  lift x to ℝ using ⟨hx', ne_bot_of_le_ne_bot EReal.zero_ne_bot hx⟩
  lift y to ℝ using ⟨hy', ne_bot_of_le_ne_bot EReal.zero_ne_bot hy⟩
  exact ⟨mul_nonneg hx hy, by rw [← EReal.coe_mul]; exact EReal.coe_ne_top _⟩

theorem div_fin {x y : EReal} (hx : 0 ≤ x) (hx' : x ≠ ⊤) (hy : 0 < y) : 0 ≤ Ideal.div x y ∧ Ideal.div x y ≠ ⊤ := by
  unfold Ideal.div
  rw [if_neg hy.ne']
  exact mul_fin hx hx' (EReal.inv_nonneg_of_nonneg hy.le) (inv_ne_top y)

theorem exp_nonneg (y : EReal) : 0 ≤ Ideal.exp y := by
  induction y with
  | bot => exact le_refl _
  | top => exact le_top
  | coe r => exact EReal.coe_nonneg.2 (Real.exp_nonneg r)

theorem one_bits : Ideal.ofBits .f32 0x3F800000#32 = 1 := by
  simp [Ideal.ofBits, Ideal.ieee, -EReal.coe_mul]; norm_num

theorem zero_bits : Ideal.ofBits .f32 0x00000000#32 = 0 := by
  simp [Ideal.ofBits, Ideal.ieee, -EReal.coe_mul]

theorem eps_bits : 0 < Ideal.ofBits .f32 0x1E3CE508#32 := by
  simp [Ideal.ofBits, Ideal.ieee, -EReal.coe_mul]
  try positivity

theorem scale_bits : 0 ≤ Ideal.ofBits .f32 0x40200000#32 ∧ Ideal.ofBits .f32 0x40200000#32 ≠ ⊤ := by
  constructor
  · simp [Ideal.ofBits, Ideal.ieee, -EReal.coe_mul]
    try positivity
  · simp [Ideal.ofBits, Ideal.ieee, -EReal.coe_mul]
    try exact EReal.coe_ne_top _

theorem scores_fin (x0 : FVec Ideal S1x2048x2048 .f32) (gw : FVec Ideal S8x2048 .f32) (i : S2048x8.Idx) :
    0 ≤ scoresOf x0 gw i ∧ scoresOf x0 gw i ≠ ⊤ := by
  have h : ∀ z : FVec Ideal S2048x8 .f32, (0 ≤ (Host.divf (broadcastInDim S2048x8 ![] bcast_S_S2048x8 (constant S_ .f32 0x3F800000#32))
      (addf (broadcastInDim S2048x8 ![] bcast_S_S2048x8 (constant S_ .f32 0x3F800000#32)) (Host.exp z)) : FVec Ideal S2048x8 .f32) i)
      ∧ (Host.divf (broadcastInDim S2048x8 ![] bcast_S_S2048x8 (constant S_ .f32 0x3F800000#32))
      (addf (broadcastInDim S2048x8 ![] bcast_S_S2048x8 (constant S_ .f32 0x3F800000#32)) (Host.exp z)) : FVec Ideal S2048x8 .f32) i ≠ ⊤ := fun z => by
    show 0 ≤ Ideal.div (Ideal.ofBits .f32 0x3F800000#32) (Ideal.ofBits .f32 0x3F800000#32 + Ideal.exp (z i))
      ∧ Ideal.div (Ideal.ofBits .f32 0x3F800000#32) (Ideal.ofBits .f32 0x3F800000#32 + Ideal.exp (z i)) ≠ ⊤
    rw [one_bits]
    exact div_fin zero_le_one (EReal.coe_ne_top 1) (lt_of_lt_of_le zero_lt_one (le_add_of_nonneg_right (exp_nonneg _)))
  exact h _

theorem weightsOf_at (pk : FVec Ideal S2048x2 .f32) (t : Fin 2048) (k : Fin 2) :
    weightsOf pk (ix2 t k) = Ideal.div (pk (ix2 t k)) ((∑ q : Fin 2, pk (ix2 t q)) + Ideal.ofBits .f32 0x1E3CE508#32) * Ideal.ofBits .f32 0x40200000#32 := by
  pointwise [weightsOf]
  try rfl

theorem weights_fin (pk : FVec Ideal S2048x2 .f32) (h : ∀ i, 0 ≤ pk i ∧ pk i ≠ ⊤) (t : Fin 2048) (k : Fin 2) :
    0 ≤ weightsOf pk (ix2 t k) ∧ weightsOf pk (ix2 t k) ≠ ⊤ := by
  rw [weightsOf_at]
  have hd := div_fin (h (ix2 t k)).1 (h (ix2 t k)).2 (y := (∑ q : Fin 2, pk (ix2 t q)) + Ideal.ofBits .f32 0x1E3CE508#32)
    (lt_of_lt_of_le eps_bits (le_add_of_nonneg_left (Finset.sum_nonneg fun q _ => (h _).1)))
  exact mul_fin hd.1 hd.2 scale_bits.1 scale_bits.2

/-- The picked score is the chosen expert's. -/
theorem pickedOf_at (ch : IVec S2048x2 32) (ha : ∀ i, (ch i).toNat < 8) (sc : FVec Ideal S2048x8 .f32) (t : Fin 2048) (k : Fin 2) :
    pickedOf sc ch (ix2 t k) = sc (ix2 t (⟨(ch (ix2 t k)).toNat, ha _⟩ : Fin 8)) := by
  have h8 : ∀ i, (ch i).toNat < 2 ^ 31 := fun i => lt_trans (ha i) (by norm_num)
  have hidx : ∀ i, (select (cmpi .slt ch (broadcastInDim S2048x2 ![] bcast_S_S2048x2 (constantI S_ 32 0#32)))
      (addi ch (broadcastInDim S2048x2 ![] bcast_S_S2048x2 (constantI S_ 32 8#32))) ch) i = ch i := fun i => by
    show Scalar.select (IntOp.cmpi .slt (ch i) 0#32) _ (ch i) = _
    exact wrapped (h8 i)
  have hidx3 : ∀ (p : Fin 2048) (q : Fin 2), shapeCast S2048x2x1 (select (cmpi .slt ch (broadcastInDim S2048x2 ![] bcast_S_S2048x2 (constantI S_ 32 0#32)))
      (addi ch (broadcastInDim S2048x2 ![] bcast_S_S2048x2 (constantI S_ 32 8#32))) ch) shapeCasts_S2048x2_S2048x2x1 (ix3 p q (0 : Fin 1)) = ch (ix2 p q) := fun p q => by
    refine (shapeCast_apply _ shapeCasts_S2048x2_S2048x2x1 _ (ix2 p q) ?_).trans (hidx _)
    rw [Shape.rowMajor_val_three, Shape.rowMajor_val_two]
    show p.val * 2 + q.val = (p.val * 2 + q.val) * 1 + 0
    omega
  unfold pickedOf
  show Scalar.select (Host.reduce IntOp.andi _ _ _ _ (ix2 t k)) _ _ = _
  rw [reduce_andi_at _ _ _ _ _ rfl (fun i _ => by
    obtain ⟨p, q, rfl⟩ : ∃ (p : Fin 2048) (q : Fin 2), i = ix3 p q (0 : Fin 1) := ⟨i 0, i 1, by
      funext b; match b with
      | ⟨0, _⟩ => rfl
      | ⟨1, _⟩ => rfl
      | ⟨2, _⟩ => exact Subsingleton.elim (α := Fin 1) _ _⟩
    show IntOp.andi (IntOp.cmpi .sge (shapeCast S2048x2x1 _ shapeCasts_S2048x2_S2048x2x1 (ix3 p q (0 : Fin 1))) 0#32)
      (IntOp.cmpi .sle (shapeCast S2048x2x1 _ shapeCasts_S2048x2_S2048x2x1 (ix3 p q (0 : Fin 1))) 7#32) = 1#1
    rw [hidx3]
    exact in_range (B := 7) rfl (by norm_num) (Nat.le_of_lt_succ (ha _)))]
  refine (gather_take_cols (N := 2048) (C := 8) (K := 2) (by norm_num) gather_S2048x8_S2048x2x1_S2048x2_n_1_0_0_1_2_11.wf sc _ t k).trans ?_
  refine congrArg (fun q : Fin 8 => sc (ix2 t q)) (Fin.ext ?_)
  have hw := hidx3 t k
  show min (BitVec.toInt (shapeCast S2048x2x1 _ shapeCasts_S2048x2_S2048x2x1 (ix3 t k (0 : Fin 1)))).toNat (8 - 1) = (ch (ix2 t k)).toNat
  rw [hw, BitVec.toInt_eq_toNat_of_lt (by have := h8 (ix2 t k); omega)]
  have := ha (ix2 t k)
  simp only [Int.toNat_natCast]
  omega

variable (m : (ℓ : Loc nD τ sig) → Buf (Elt Ideal) ℓ) (c : Dev nD)

theorem weightM_fin (t : Fin 2048) (k : Fin 2) : 0 ≤ weightM m c (ix2 t k) ∧ weightM m c (ix2 t k) ≠ ⊤ := by
  refine weights_fin _ (fun i => ?_) t k
  obtain ⟨p, q, rfl⟩ : ∃ (p : Fin 2048) (q : Fin 2), i = ix2 p q := ⟨i 0, i 1, by
    funext b; match b with
    | ⟨0, _⟩ => rfl
    | ⟨1, _⟩ => rfl⟩
  rw [pickedOf_at (choiceM m c) (choiceOf_lt _ _)]
  exact scores_fin _ _ _

end Cert.KernelIdeal.Pf
-- ==== Proof.Value.RefValue.lean ====
/-
  The reference's result as one expression of its inputs, a choice and its weights, and that expression read at an index.
-/
module

public import proofs.«01_k».proof.Proof.Gen.ReferenceIdeal.Run
public import proofs.«01_k».proof.Proof.Value.Rows
public import Idealize.ShloMosaic.Lib.Pointwise

@[expose] public section

noncomputable section

namespace Cert.ReferenceIdeal.Pf

open Cert.ReferenceIdeal Cert.ReferenceIdeal.Gen Cert.Moe
open Idealize.ShloMosaic Idealize.ShloMosaic.TcCoe
open scoped BigOperators

/-- The constant one. -/
theorem one_word : Ideal.ofBits .f32 0x3F800000#32 = 1 := by
  simp [Ideal.ofBits, Ideal.ieee, -EReal.coe_mul]; norm_num

/-- The tokens as rows. -/
def rowsR (x0 : FVec Ideal S1x2048x2048 .f32) : FVec Ideal S2048x2048 .f32 :=
  shapeCast S2048x2048 x0 shapeCasts_S1x2048x2048_S2048x2048

/-- Every token's product with every expert's weight. -/
def prodE (x : FVec Ideal S2048x2048 .f32) (g : FVec Ideal S8x1408x2048 .f32) : FVec Ideal S2048x8x1408 .f32 :=
  Host.dotGeneral dot_S2048x2048_S8x2048x1408_S2048x8x1408_1_1_0_02_n_n none x
    (transpose S8x2048x1408 [0, 2, 1] g transposes_S8x1408x2048_S8x2048x1408_0_2_1)

/-- The hidden values. -/
def hiddenE (G U : FVec Ideal S2048x8x1408 .f32) : FVec Ideal S2048x8x1408 .f32 :=
  mulf (mulf G (Host.divf (broadcastInDim S2048x8x1408 ![] bcast_S_S2048x8x1408 (constant S_ .f32 0x3F800000#32))
    (addf (broadcastInDim S2048x8x1408 ![] bcast_S_S2048x8x1408 (constant S_ .f32 0x3F800000#32)) (Host.exp (Host.negf G))))) U

/-- Every expert's output for every token. -/
def outE (h : FVec Ideal S2048x8x1408 .f32) (d : FVec Ideal S8x2048x1408 .f32) : FVec Ideal S8x2048x2048 .f32 :=
  Host.dotGeneral dot_S2048x8x1408_S8x1408x2048_S8x2048x2048_2_1_0_2_1_0 none h
    (transpose S8x1408x2048 [0, 2, 1] d transposes_S8x2048x1408_S8x1408x2048_0_2_1)

/-- The outputs weighted and added. -/
def mixE (o : FVec Ideal S8x2048x2048 .f32) (rw : FVec Ideal S2048x8 .f32) : FVec Ideal S2048x2048 .f32 :=
  Host.dotGeneral dot_S8x2048x2048_S2048x8_S2048x2048_0_1_2_n_1_0 none o rw

/-- A product with a shared weight. -/
def prodS (x : FVec Ideal S2048x2048 .f32) (g : FVec Ideal S1408x2048 .f32) : FVec Ideal S2048x1408 .f32 :=
  Host.dotGeneral dot_S2048x2048_S2048x1408_S2048x1408_1_0_0_1_n_n none x
    (transpose S2048x1408 [1, 0] g transposes_S1408x2048_S2048x1408_1_0)

/-- The shared hidden values. -/
def hiddenS (G U : FVec Ideal S2048x1408 .f32) : FVec Ideal S2048x1408 .f32 :=
  mulf (mulf G (Host.divf (broadcastInDim S2048x1408 ![] bcast_S_S2048x1408 (constant S_ .f32 0x3F800000#32))
    (addf (broadcastInDim S2048x1408 ![] bcast_S_S2048x1408 (constant S_ .f32 0x3F800000#32)) (Host.exp (Host.negf G))))) U

/-- The shared expert's output. -/
def outS (h : FVec Ideal S2048x1408 .f32) (d : FVec Ideal S2048x1408 .f32) : FVec Ideal S2048x2048 .f32 :=
  Host.dotGeneral dot_S2048x1408_S1408x2048_S2048x2048_1_0_0_1_n_n none h
    (transpose S1408x2048 [1, 0] d transposes_S2048x1408_S1408x2048_1_0)

theorem rowsR_at (x0 : FVec Ideal S1x2048x2048 .f32) (t k : Fin 2048) : rowsR x0 (ix2 t k) = x0 (ix3 (0 : Fin 1) t k) := by
  unfold rowsR
  refine shapeCast_apply _ shapeCasts_S1x2048x2048_S2048x2048 _ _ ?_
  rw [Shape.rowMajor_val_three, Shape.rowMajor_val_two]
  show (0 * 2048 + t.val) * 2048 + k.val = t.val * 2048 + k.val
  omega

theorem prodE_at (x : FVec Ideal S2048x2048 .f32) (g : FVec Ideal S8x1408x2048 .f32) (t : Fin 2048) (e : Fin 8) (f : Fin 1408) :
    prodE x g (ix3 t e f) = dotp (fun k => x (ix2 t k)) (fun k => g (ix3 e f k)) := by
  unfold dotp
  pointwise [prodE]
  try rfl

theorem hiddenE_at (G U : FVec Ideal S2048x8x1408 .f32) (t : Fin 2048) (e : Fin 8) (f : Fin 1408) :
    hiddenE G U (ix3 t e f) = G (ix3 t e f) * Ideal.logistic (G (ix3 t e f)) * U (ix3 t e f) := by
  show G (ix3 t e f) * Ideal.div (Ideal.ofBits .f32 0x3F800000#32) (Ideal.ofBits .f32 0x3F800000#32 + Ideal.exp (-(G (ix3 t e f)))) * U (ix3 t e f) = _
  rw [one_word]; rfl

theorem outE_at (h : FVec Ideal S2048x8x1408 .f32) (d : FVec Ideal S8x2048x1408 .f32) (e : Fin 8) (t q : Fin 2048) :
    outE h d (ix3 e t q) = ∑ f : Fin 1408, h (ix3 t e f) * d (ix3 e q f) := by
  pointwise [outE]
  try rfl

theorem mixE_at (o : FVec Ideal S8x2048x2048 .f32) (rw : FVec Ideal S2048x8 .f32) (t q : Fin 2048) :
    mixE o rw (ix2 t q) = ∑ e : Fin 8, o (ix3 e t q) * rw (ix2 t e) := by
  pointwise [mixE]
  try rfl

theorem prodS_at (x : FVec Ideal S2048x2048 .f32) (g : FVec Ideal S1408x2048 .f32) (t : Fin 2048) (f : Fin 1408) :
    prodS x g (ix2 t f) = dotp (fun k => x (ix2 t k)) (fun k => g (ix2 f k)) := by
  unfold dotp
  pointwise [prodS]
  try rfl

theorem hiddenS_at (G U : FVec Ideal S2048x1408 .f32) (t : Fin 2048) (f : Fin 1408) :
    hiddenS G U (ix2 t f) = G (ix2 t f) * Ideal.logistic (G (ix2 t f)) * U (ix2 t f) := by
  show G (ix2 t f) * Ideal.div (Ideal.ofBits .f32 0x3F800000#32) (Ideal.ofBits .f32 0x3F800000#32 + Ideal.exp (-(G (ix2 t f)))) * U (ix2 t f) = _
  rw [one_word]; rfl

theorem outS_at (h : FVec Ideal S2048x1408 .f32) (d : FVec Ideal S2048x1408 .f32) (t q : Fin 2048) :
    outS h d (ix2 t q) = ∑ f : Fin 1408, h (ix2 t f) * d (ix2 q f) := by
  pointwise [outS]
  try rfl

/-- The reference's result, from its weight table. -/
def refOut (x0 : FVec Ideal S1x2048x2048 .f32) (g u : FVec Ideal S8x1408x2048 .f32) (d : FVec Ideal S8x2048x1408 .f32)
    (sg su : FVec Ideal S1408x2048 .f32) (sd : FVec Ideal S2048x1408 .f32) (rw : FVec Ideal S2048x8 .f32) : FVec Ideal S1x2048x2048 .f32 :=
  shapeCast S1x2048x2048 (addf (mixE (outE (hiddenE (prodE (rowsR x0) g) (prodE (rowsR x0) u)) d) rw)
    (outS (hiddenS (prodS (rowsR x0) sg) (prodS (rowsR x0) su)) sd)) shapeCasts_S2048x2048_S1x2048x2048

/-- The reference's result at an index. -/
theorem refOut_at (x0 : FVec Ideal S1x2048x2048 .f32) (g u : FVec Ideal S8x1408x2048 .f32) (d : FVec Ideal S8x2048x1408 .f32)
    (sg su : FVec Ideal S1408x2048 .f32) (sd : FVec Ideal S2048x1408 .f32) (rw : FVec Ideal S2048x8 .f32) (t q : Fin 2048) :
    refOut x0 g u d sg su sd rw (ix3 (0 : Fin 1) t q)
      = (∑ e : Fin 8, mlp (fun k => x0 (ix3 (0 : Fin 1) t k)) (fun f k => g (ix3 e f k)) (fun f k => u (ix3 e f k)) (fun f => d (ix3 e q f)) * rw (ix2 t e))
        + mlp (fun k => x0 (ix3 (0 : Fin 1) t k)) (fun f k => sg (ix2 f k)) (fun f k => su (ix2 f k)) (fun f => sd (ix2 q f)) := by
  unfold refOut
  refine (shapeCast_apply _ shapeCasts_S2048x2048_S1x2048x2048 _ (ix2 t q) ?_).trans ?_
  · rw [Shape.rowMajor_val_three, Shape.rowMajor_val_two]
    show t.val * 2048 + q.val = (0 * 2048 + t.val) * 2048 + q.val
    omega
  show mixE _ rw (ix2 t q) + outS _ sd (ix2 t q) = _
  rw [mixE_at, outS_at]
  simp only [outE_at, hiddenE_at, hiddenS_at, prodE_at, prodS_at, rowsR_at]
  rfl

end Cert.ReferenceIdeal.Pf
-- ==== Proof.Value.Combine.lean ====
/-
  The reference's weight table: at a token and an expert, the sum of the weights of the token's choices that name the expert.
-/
module

public import proofs.«01_k».proof.Proof.Value.RefValue
public import Idealize.ShloMosaic.Lib.Routing.OpsPair

@[expose] public section

noncomputable section

namespace Cert.ReferenceIdeal.Pf

open Cert.ReferenceIdeal Cert.ReferenceIdeal.Gen Cert.Moe
open Idealize.ShloMosaic Idealize.ShloMosaic.TcCoe Idealize.ShloMosaic.Tactic
open scoped BigOperators

/-- Every token's number, in a column. -/
def rowIota : IVec S2048x1 32 := broadcastInDim S2048x1 ![0] bcast_S2048_S2048x1_0 (iotaInDim S2048 32 0)

/-- Every choice's token. -/
def rowWords : IVec S2048x2x1 32 :=
  broadcastInDim S2048x2x1 ![0, 1] bcast_S2048x2_S2048x2x1_0_1 (broadcastInDim S2048x2 ![0, 1] bcast_S2048x1_S2048x2_0_1
    (select (cmpi .slt rowIota (broadcastInDim S2048x1 ![] bcast_S_S2048x1 (constantI S_ 32 0#32)))
      (addi rowIota (broadcastInDim S2048x1 ![] bcast_S_S2048x1 (constantI S_ 32 2048#32))) rowIota))

/-- Every choice's expert. -/
def colWords (ch : IVec S2048x2 32) : IVec S2048x2x1 32 :=
  broadcastInDim S2048x2x1 ![0, 1] bcast_S2048x2_S2048x2x1_0_1
    (select (cmpi .slt ch (broadcastInDim S2048x2 ![] bcast_S_S2048x2 (constantI S_ 32 0#32)))
      (addi ch (broadcastInDim S2048x2 ![] bcast_S_S2048x2 (constantI S_ 32 8#32))) ch)

/-- The two side by side. -/
def wordPairs (ch : IVec S2048x2 32) : IVec S2048x2x2 32 :=
  concatenate S2048x2x2 2 [⟨S2048x2x1, rowWords⟩, ⟨S2048x2x1, colWords ch⟩] concatenates_S2048x2x1_S2048x2x1_S2048x2x2_d2

/-- The weight table. -/
def combine (ch : IVec S2048x2 32) (w : FVec Ideal S2048x2 .f32) : FVec Ideal S2048x8 .f32 :=
  Host.scatterAdd scatter_S2048x8_S2048x2x2_S2048x2_n_01_01_2 (broadcastInDim S2048x8 ![] bcast_S_S2048x8 (constant S_ .f32 0x00000000#32))
    (wordPairs ch) w

theorem rowWords_at (t : Fin 2048) (k : Fin 2) : rowWords (ix3 t k (0 : Fin 1)) = BitVec.ofNat 32 t.val := by
  have h : rowWords (ix3 t k (0 : Fin 1)) = Scalar.select (IntOp.cmpi .slt (BitVec.ofNat 32 t.val) 0#32) (IntOp.addi (BitVec.ofNat 32 t.val) 2048#32) (BitVec.ofNat 32 t.val) := by
    pointwise [rowWords, rowIota]
    try rfl
  rw [h]
  exact Routing.wrap_of_lt _ _ (by rw [BitVec.toNat_ofNat]; have := t.isLt; omega)

theorem colWords_at (ch : IVec S2048x2 32) (ha : ∀ i, (ch i).toNat < 8) (t : Fin 2048) (k : Fin 2) : colWords ch (ix3 t k (0 : Fin 1)) = ch (ix2 t k) := by
  have h : colWords ch (ix3 t k (0 : Fin 1)) = Scalar.select (IntOp.cmpi .slt (ch (ix2 t k)) 0#32) (IntOp.addi (ch (ix2 t k)) 8#32) (ch (ix2 t k)) := by
    pointwise [colWords]
    try rfl
  rw [h]
  exact Routing.wrap_of_lt _ _ (lt_trans (ha _) (by norm_num))

theorem wordPairs_row (ch : IVec S2048x2 32) (t : Fin 2048) (k : Fin 2) : wordPairs ch (ix3 t k (0 : Fin 2)) = rowWords (ix3 t k (0 : Fin 1)) := by
  have h : ∀ x y : IVec S2048x2x1 32, concatenate S2048x2x2 2 [⟨S2048x2x1, x⟩, ⟨S2048x2x1, y⟩] concatenates_S2048x2x1_S2048x2x1_S2048x2x2_d2 (ix3 t k (0 : Fin 2)) = x (ix3 t k (0 : Fin 1)) := fun x y => by
    pointwise []
    try rfl
  exact h _ _

theorem wordPairs_col (ch : IVec S2048x2 32) (t : Fin 2048) (k : Fin 2) : wordPairs ch (ix3 t k (1 : Fin 2)) = colWords ch (ix3 t k (0 : Fin 1)) := by
  have h : ∀ x y : IVec S2048x2x1 32, concatenate S2048x2x2 2 [⟨S2048x2x1, x⟩, ⟨S2048x2x1, y⟩] concatenates_S2048x2x1_S2048x2x1_S2048x2x2_d2 (ix3 t k (1 : Fin 2)) = y (ix3 t k (0 : Fin 1)) := fun x y => by
    pointwise []
    try rfl
  exact h _ _

/-- A choice's weight goes to its token and expert. -/
theorem lands (ch : IVec S2048x2 32) (ha : ∀ i, (ch i).toNat < 8) (a : Fin 2048) (k : Fin 2) (t : Fin 2048) (e : Fin 8) :
    scatter_S2048x8_S2048x2x2_S2048x2_n_01_01_2.resultIdx? (ix2 a k) (wordPairs ch) = some (ix2 t e) ↔ a = t ∧ (⟨(ch (ix2 a k)).toNat, ha _⟩ : Fin 8) = e := by
  refine (Routing.scatter_lands2 scatter_S2048x8_S2048x2x2_S2048x2_n_01_01_2 rfl rfl rfl _ a k t e).trans ?_
  have h1 : (wordPairs ch (ix3 a k (0 : Fin 2))).toInt = (a.val : Int) := by
    rw [wordPairs_row, rowWords_at, BitVec.toInt_eq_toNat_of_lt (by rw [BitVec.toNat_ofNat]; have := a.isLt; omega), BitVec.toNat_ofNat,
      Nat.mod_eq_of_lt (by have := a.isLt; omega)]
  have h2 : (wordPairs ch (ix3 a k (1 : Fin 2))).toInt = ((ch (ix2 a k)).toNat : Int) := by
    rw [wordPairs_col, colWords_at ch ha, BitVec.toInt_eq_toNat_of_lt (by have := ha (ix2 a k); omega)]
  refine (and_congr (Eq.congr_left h1) (Eq.congr_left h2)).trans ?_
  rw [Fin.ext_iff, Fin.ext_iff, Nat.cast_inj, Nat.cast_inj]

theorem combine_at (ch : IVec S2048x2 32) (ha : ∀ i, (ch i).toNat < 8) (w : FVec Ideal S2048x2 .f32) (t : Fin 2048) (e : Fin 8) :
    combine ch w (ix2 t e) = ∑ k : Fin 2, if (⟨(ch (ix2 t k)).toNat, ha _⟩ : Fin 8) = e then w (ix2 t k) else 0 := by
  show Ideal.ofBits .f32 0x00000000#32 + ∑ j ∈ Finset.univ.filter (fun j => scatter_S2048x8_S2048x2x2_S2048x2_n_01_01_2.resultIdx? j (wordPairs ch) = some (ix2 t e)), w j = _
  have h0 : Ideal.ofBits .f32 0x00000000#32 = 0 := by simp [Ideal.ofBits, Ideal.ieee, -EReal.coe_mul]
  rw [h0, zero_add, Finset.sum_filter]
  refine (sum_idx2 (n0 := 2048) (n1 := 2) _).trans ?_
  rw [Finset.sum_eq_single t]
  · refine Finset.sum_congr rfl fun k _ => if_congr ((lands ch ha t k t e).trans (and_iff_right rfl)) rfl rfl
  · intro a _ hne
    refine Finset.sum_eq_zero fun k _ => if_neg fun h => hne ((lands ch ha a k t e).1 h).1
  · exact fun h => absurd (Finset.mem_univ t) h

end Cert.ReferenceIdeal.Pf
-- ==== Proof.Value.Blend.lean ====
/-
  Weighting before or after a down product is the same for a nonnegative finite weight, and a sum over experts weighted by the
  choices that name them is the sum over the choices.
-/
module

public import proofs.«01_k».proof.Proof.Value.Rows

@[expose] public section

noncomputable section

namespace Cert.Moe

open Idealize.ShloMosaic
open scoped BigOperators

theorem sum_mul_of_nonneg {ι : Type} (s : Finset ι) (f : ι → EReal) {w : EReal} (h0 : 0 ≤ w) (ht : w ≠ ⊤) :
    (∑ i ∈ s, f i) * w = ∑ i ∈ s, f i * w := by
  classical
  induction s using Finset.induction_on with
  | empty => simp
  | insert a s ha ih => rw [Finset.sum_insert ha, Finset.sum_insert ha, EReal.right_distrib_of_nonneg_of_ne_top h0 ht, ih]

/-- The weight leaves the down product. -/
theorem mlpScaled_eq (w : EReal) (h0 : 0 ≤ w) (ht : w ≠ ⊤) (x : Fin 2048 → EReal) (g u : Fin 1408 → Fin 2048 → EReal) (d : Fin 1408 → EReal) :
    mlpScaled w x g u d = mlp x g u d * w := by
  unfold mlpScaled mlp
  rw [sum_mul_of_nonneg _ _ h0 ht]
  exact Finset.sum_congr rfl fun f _ => mul_right_comm _ _ _

/-- The experts' outputs, each weighted by the sum of the weights of the choices that name it, add up to the choices' outputs. -/
theorem blend (o : Fin 8 → EReal) (c : Fin 2 → Fin 8) (w : Fin 2 → EReal) (h0 : ∀ k, 0 ≤ w k) :
    (∑ e, o e * ∑ k, (if c k = e then w k else 0)) = o (c 0) * w 0 + o (c 1) * w 1 := by
  have h : ∀ e, (o e * ∑ k, (if c k = e then w k else 0)) = (if c 0 = e then o e * w 0 else 0) + (if c 1 = e then o e * w 1 else 0) := fun e => by
    have hn : ∀ k, 0 ≤ (if c k = e then w k else 0) := fun k => by split_ifs <;> simp [h0 k]
    rw [Fin.sum_univ_two, EReal.left_distrib_of_nonneg (hn 0) (hn 1)]
    congr 1 <;> split_ifs <;> simp
  rw [Finset.sum_congr rfl fun e _ => h e, Finset.sum_add_distrib]
  simp

end Cert.Moe
-- ==== Proof.Value.Agree.lean ====
/-
  The two programs' results agree on equal arguments.
-/
module

public import proofs.«01_k».proof.Proof.Value.Weights
public import proofs.«01_k».proof.Proof.Value.Combine
public import proofs.«01_k».proof.Proof.Value.Blend

@[expose] public section

noncomputable section

namespace Cert.Agree

open Cert.Moe
open Idealize.ShloMosaic Idealize.ShloMosaic.TcCoe
open Cert.KernelIdeal.Pf Cert.ReferenceIdeal.Pf
open scoped BigOperators

/-- The reference's result, from the same scores, choices and weights as the kernel's. -/
def refMoe (x0 : FVec Ideal Cert.KernelIdeal.S1x2048x2048 .f32) (gw : FVec Ideal Cert.KernelIdeal.S8x2048 .f32) (gb : FVec Ideal Cert.KernelIdeal.S8 .f32)
    (g u : FVec Ideal Cert.KernelIdeal.S8x1408x2048 .f32) (d : FVec Ideal Cert.KernelIdeal.S8x2048x1408 .f32)
    (sg su : FVec Ideal Cert.KernelIdeal.S1408x2048 .f32) (sd : FVec Ideal Cert.KernelIdeal.S2048x1408 .f32) : FVec Ideal Cert.KernelIdeal.S1x2048x2048 .f32 :=
  refOut x0 g u d sg su sd (combine (choiceOf (scoresOf x0 gw) gb) (weightsOf (pickedOf (scoresOf x0 gw) (choiceOf (scoresOf x0 gw) gb))))

set_option maxRecDepth 8192 in
theorem res_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v57 m' c
      = refMoe (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) := rfl

/-- The kernel's result is the reference's, of its own arguments. -/
theorem kernel_eq (m : (ℓ : Loc Cert.KernelIdeal.nD Cert.KernelIdeal.τ Cert.KernelIdeal.sig) → Buf (Elt Ideal) ℓ) (c : Dev Cert.KernelIdeal.nD) :
    (Cert.KernelIdeal.Gen.V21 m (outs m) c (Proc.devRef .tc Cert.KernelIdeal.main_v94) : FVec Ideal Cert.KernelIdeal.S1x2048x2048 .f32)
      = refMoe (aX m c) (aGw m c) (aGb m c) (aG m c) (aU m c) (aD m c) (aSG m c) (aSU m c) (aSD m c) := by
  funext i
  obtain ⟨t, q, rfl⟩ : ∃ (t q : Fin 2048), i = ix3 (0 : Fin 1) t q := ⟨i 1, i 2, by
    funext b; match b with
    | ⟨0, _⟩ => exact Subsingleton.elim (α := Fin 1) _ _
    | ⟨1, _⟩ => rfl
    | ⟨2, _⟩ => rfl⟩
  have h0 := weightM_fin m c t (0 : Fin 2)
  have h1 := weightM_fin m c t (1 : Fin 2)
  refine (kernel_at m c t q).trans (Eq.symm ?_)
  unfold refMoe
  refine (refOut_at _ _ _ _ _ _ _ _ t q).trans ?_
  rw [mlpScaled_eq _ h0.1 h0.2, mlpScaled_eq _ h1.1 h1.2]
  have hb := blend (fun e => mlp (fun k => aX m c (ix3 (0 : Fin 1) t k)) (fun f k => aG m c (ix3 e f k)) (fun f k => aU m c (ix3 e f k)) (fun f => aD m c (ix3 e q f)))
    (fun k => expertM m c t k) (fun k => weightM m c (ix2 t k)) (fun k => (weightM_fin m c t k).1)
  have hc : ∀ e : Fin 8, combine (choiceM m c) (weightM m c) (ix2 t e) = ∑ k : Fin 2, (if expertM m c t k = e then weightM m c (ix2 t k) else 0) := fun e =>
    combine_at (choiceM m c) (choiceOf_lt _ _) (weightM m c) t e
  simp only [← hc] at hb
  exact congr (congrArg HAdd.hAdd hb) rfl

/-- On equal arguments the results are equal. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Value.res_main_v57 m' c : FVec Ideal Cert.KernelIdeal.S1x2048x2048 .f32)
      = Cert.KernelIdeal.Gen.V21 m (outs m) c (Proc.devRef .tc Cert.KernelIdeal.main_v94) := by
  refine (res_eq m' c).trans (Eq.trans ?_ (kernel_eq m c).symm)
  rw [h0, h1, h2, h3, h4, h5, h6, h7, h8]

end Cert.Agree
-- ==== Proof.lean ====
/-
  The claim: the frames of the kernel, of its idealization and of the reference's, that the idealization preserves
  the program, and that it computes the reference's result.
-/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Value.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => Cert.Kernel.Pf.frame m g,
    fun m g _ => Cert.KernelIdeal.Pf.frame m g,
    fun m g _ => (θ_run Cert.ReferenceIdeal.defs _ _).mono (fun r h => ⟨fun c => (h c).2, sem_eq_zero_of_no_sems (by decide) r.2⟩)
      (Cert.ReferenceIdeal.Value.run (F := Ideal) m g),
    trivial,
    fun m g m' g' _ h => ⟨fun c => Cert.KernelIdeal.Gen.V21 m (Cert.KernelIdeal.Pf.outs m) c (Proc.devRef .tc Cert.KernelIdeal.main_v94),
      θ_run_mono (Cert.KernelIdeal.Pf.run m g) (fun _ hr => hr.1),
      (θ_run Cert.ReferenceIdeal.defs _ _).mono (fun r hr c => ⟨(hr c).1.trans (Cert.Agree.agree m m' c (h c).1 (h c).2.1 (h c).2.2.1 (h c).2.2.2.1
        (h c).2.2.2.2.1 (h c).2.2.2.2.2.1 (h c).2.2.2.2.2.2.1 (h c).2.2.2.2.2.2.2.1 (h c).2.2.2.2.2.2.2.2), (hr c).2⟩)
        (Cert.ReferenceIdeal.Value.run (F := Ideal) m' g')⟩⟩

end Cert.Proof
